-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1 : Shape := ⟨1, ![1]⟩
abbrev S1024x8192 : Shape := ⟨2, ![1024, 8192]⟩
abbrev S4x1024x1024 : Shape := ⟨3, ![4, 1024, 1024]⟩
abbrev S2x1024x1024 : Shape := ⟨3, ![2, 1024, 1024]⟩
abbrev S3 : Shape := ⟨1, ![3]⟩
abbrev S4 : Shape := ⟨1, ![4]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x1024, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S4096x1024, .fp8e4m3⟩
  | .local _ .vmem, ⟨1, _⟩ => ⟨S1024x8192, .f32⟩
  | .local _ .vmem, ⟨2, _⟩ => ⟨S4x1024x1024, .fp8e4m3⟩
  | .local _ .vmem, ⟨3, _⟩ => ⟨S4x1024x1024, .f32⟩
  | .local _ .vmem, ⟨4, _⟩ => ⟨S2x1024x1024, .fp8e4m3⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_18 : BitVec 32 := 0#32
  let c0_i32_19 : BitVec 32 := 0#32
  ![v2.toNat, 0, 0]
def k0_off3 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c1024_i32 : BitVec 32 := 1024#32
  let v18 : BitVec 32 := Scalar.muli v17 c1024_i32
  let c0_i32_20 : BitVec 32 := 0#32
  ![v18.toNat, 0]
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_16 : BitVec 32 := 1#32
  let v19 : BitVec 32 := Scalar.muli v17 c1_i32_16
  let v20 : BitVec 32 := Scalar.addi c0_i32_17 v19
  v20.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_21 : BitVec 32 := 2#32
  let v28 : BitVec 32 := Scalar.addi v2 c2_i32_21
  let c4_i32_22 : BitVec 32 := 4#32
  let v29 : BitVec 32 := Scalar.remsi v28 c4_i32_22
  let c1_i32_25 : BitVec 32 := 1#32
  let v31 : BitVec 32 := Scalar.muli v29 c1_i32_25
  let v32 : BitVec 32 := Scalar.addi c0_i32_26 v31
  v32.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_30 : BitVec 32 := 3#32
  let v40 : BitVec 32 := Scalar.addi v2 c3_i32_30
  let c4_i32_31 : BitVec 32 := 4#32
  let v41 : BitVec 32 := Scalar.remsi v40 c4_i32_31
  let c1_i32_34 : BitVec 32 := 1#32
  let v43 : BitVec 32 := Scalar.muli v41 c1_i32_34
  let v44 : BitVec 32 := Scalar.addi c0_i32_35 v43
  v44.toNat
def k0_off4 (d0 : Dev nD) (c0_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v55 : BitVec 32 := Scalar.addi v2 c0_i32_40
  let c4_i32_41 : BitVec 32 := 4#32
  let v56 : BitVec 32 := Scalar.remsi v55 c4_i32_41
  let c1024_i32_42 : BitVec 32 := 1024#32
  let v57 : BitVec 32 := Scalar.muli v56 c1024_i32_42
  let c0_i32_47 : BitVec 32 := 0#32
  ![v57.toNat, 0]
def k0_off5 (d0 : Dev nD) (c0_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v63 : BitVec 32 := Scalar.addi v2 c0_i32_48
  let c4_i32_49 : BitVec 32 := 4#32
  let v64 : BitVec 32 := Scalar.remsi v63 c4_i32_49
  let c1024_i32_50 : BitVec 32 := 1024#32
  let v65 : BitVec 32 := Scalar.muli v64 c1024_i32_50
  let c1024_i32_55 : BitVec 32 := 1024#32
  ![v65.toNat, 1024]
def k0_off6 (d0 : Dev nD) (c0_i32_56 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : BitVec 32 := Scalar.addi v2 c0_i32_56
  let c4_i32_57 : BitVec 32 := 4#32
  let v72 : BitVec 32 := Scalar.remsi v71 c4_i32_57
  let c1024_i32_58 : BitVec 32 := 1024#32
  let v73 : BitVec 32 := Scalar.muli v72 c1024_i32_58
  let c2048_i32 : BitVec 32 := 2048#32
  ![v73.toNat, 2048]
def k0_off7 (d0 : Dev nD) (c0_i32_63 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v79 : BitVec 32 := Scalar.addi v2 c0_i32_63
  let c4_i32_64 : BitVec 32 := 4#32
  let v80 : BitVec 32 := Scalar.remsi v79 c4_i32_64
  let c1024_i32_65 : BitVec 32 := 1024#32
  let v81 : BitVec 32 := Scalar.muli v80 c1024_i32_65
  let c3072_i32 : BitVec 32 := 3072#32
  ![v81.toNat, 3072]
def k0_off8 (d0 : Dev nD) (c0_i32_84 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v101 : BitVec 32 := Scalar.addi v2 c0_i32_84
  let c4_i32_85 : BitVec 32 := 4#32
  let v102 : BitVec 32 := Scalar.remsi v101 c4_i32_85
  let c1024_i32_86 : BitVec 32 := 1024#32
  let v103 : BitVec 32 := Scalar.muli v102 c1024_i32_86
  let c4096_i32 : BitVec 32 := 4096#32
  ![v103.toNat, 4096]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_91 : BitVec 32 := 1024#32
  let v109 : BitVec 32 := Scalar.muli v2 c1024_i32_91
  let v110 : Index := Scalar.indexCast v109
  let c0_92 : Index := 0#32
  ![v110.toNat, 0]
def k0_off10 (d0 : Dev nD) (c0_i32_106 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v127 : BitVec 32 := Scalar.addi v2 c0_i32_106
  let c4_i32_107 : BitVec 32 := 4#32
  let v128 : BitVec 32 := Scalar.remsi v127 c4_i32_107
  let c1024_i32_108 : BitVec 32 := 1024#32
  let v129 : BitVec 32 := Scalar.muli v128 c1024_i32_108
  let c5120_i32 : BitVec 32 := 5120#32
  ![v129.toNat, 5120]
def k0_off11 (d0 : Dev nD) (c0_i32_131 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v153 : BitVec 32 := Scalar.addi v2 c0_i32_131
  let c4_i32_132 : BitVec 32 := 4#32
  let v154 : BitVec 32 := Scalar.remsi v153 c4_i32_132
  let c1024_i32_133 : BitVec 32 := 1024#32
  let v155 : BitVec 32 := Scalar.muli v154 c1024_i32_133
  let c6144_i32 : BitVec 32 := 6144#32
  ![v155.toNat, 6144]
def k0_off12 (d0 : Dev nD) (c0_i32_156 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v179 : BitVec 32 := Scalar.addi v2 c0_i32_156
  let c4_i32_157 : BitVec 32 := 4#32
  let v180 : BitVec 32 := Scalar.remsi v179 c4_i32_157
  let c1024_i32_158 : BitVec 32 := 1024#32
  let v181 : BitVec 32 := Scalar.muli v180 c1024_i32_158
  let c7168_i32 : BitVec 32 := 7168#32
  ![v181.toNat, 7168]
def k0_off13 (d0 : Dev nD) (c1_i32_303 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v321 : BitVec 32 := Scalar.addi v2 c1_i32_303
  let c4_i32_304 : BitVec 32 := 4#32
  let v322 : BitVec 32 := Scalar.remsi v321 c4_i32_304
  ![v322.toNat]
def k0_off14 (d0 : Dev nD) (c1_i32_303 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v321 : BitVec 32 := Scalar.addi v2 c1_i32_303
  let c4_i32_304 : BitVec 32 := 4#32
  let v322 : BitVec 32 := Scalar.remsi v321 c4_i32_304
  let c0_i32_308 : BitVec 32 := 0#32
  let c0_i32_309 : BitVec 32 := 0#32
  ![v322.toNat, 0, 0]
def k0_off15 (d0 : Dev nD) (c1_i32_334 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v352 : BitVec 32 := Scalar.addi v2 c1_i32_334
  let c4_i32_335 : BitVec 32 := 4#32
  let v353 : BitVec 32 := Scalar.remsi v352 c4_i32_335
  let v354 : Index := Scalar.indexCast v353
  let c0_336 : Index := 0#32
  let c0_337 : Index := 0#32
  ![v354.toNat, 0, 0]
abbrev stage0_0 : Fin 1 → Memref sig .tc .vmem S4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .f32⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Proto.lean ====
/-
# `KernelIdeal`: the protocol between the four devices

Every device holds, staged, its columns of `x` (4096 rows); it needs the 1024 rows of its own number from every device.
Device `s` sends its rows `d` into slot `s` of device `d`'s gather scratch `xg`. A semaphore cell at a time:

* BARRIER cell of `c` (the runtime's, unscoped): round 0, one unit from each of the three peers. Peer `p` hands over slot
  `c` of its own `xg`, at whatever it holds, and that it is at round 0 of the receive cell `c` there: after the wait for
  three, `c` owns its three landing slots.
* SEND cell `k` of `c`: round 0, the credit of one block, paid by the copy to device `c + k + 1`; it gives back the rows
  of `x` the copy reads.
* RECEIVE cell `s` of `c`, for `s ≠ c`: round 0, the credit of one block, paid by device `s`'s copy; it gives slot `s` of
  `c`'s `xg`, holding `s`'s rows `c`. The cell `c` of `c` is never used.

The four cells of the weight ring stay local to the device: their counters are held at zero between uses.
A duty of a barrier cell is named by the distance of the peer that pays it, any other by `0`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's own rounds, the local copies' counters -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every counter at zero, arbitrary generator registers. -/
def s₀ : MemSt nD τ sig (Elt F) := ⟨m, fun _ => 0, ρ⟩

/-! ## Devices around the mesh -/

set_option backward.proofsInPublic true in
/-- The device `k` places after `c`. -/
def rot (k : ℕ) (c : Dev nD) : Dev nD := ⟨(c.val + k) % 4, Nat.mod_lt _ (by decide)⟩

theorem dev1_eq (c : Dev nD) : (⟨k0_dev1 c, k0_dev1_lt c⟩ : Dev nD) = rot 1 c := Fin.ext (k0_dev1_eq c)
theorem dev2_eq (c : Dev nD) : (⟨k0_dev2 c, k0_dev2_lt c⟩ : Dev nD) = rot 2 c := Fin.ext (k0_dev2_eq c)
theorem dev3_eq (c : Dev nD) : (⟨k0_dev3 c, k0_dev3_lt c⟩ : Dev nD) = rot 3 c := Fin.ext (k0_dev3_eq c)
theorem dev4_eq (c : Dev nD) : (⟨k0_dev4 c, k0_dev4_lt c⟩ : Dev nD) = rot 1 c := Fin.ext (k0_dev4_eq c)
theorem dev5_eq (c : Dev nD) : (⟨k0_dev5 c, k0_dev5_lt c⟩ : Dev nD) = rot 2 c := Fin.ext (k0_dev5_eq c)
theorem dev6_eq (c : Dev nD) : (⟨k0_dev6 c, k0_dev6_lt c⟩ : Dev nD) = rot 3 c := Fin.ext (k0_dev6_eq c)

/-- The four devices, listed from `c` on. -/
abbrev around (c : Dev nD) : List (Dev nD) := [c, rot 1 c, rot 2 c, rot 3 c]
theorem around_nodup (c : Dev nD) : (around c).Nodup := by revert c; decide
theorem around_all (c : Dev nD) : (Finset.univ : Finset (Dev nD)) = (around c).toFinset := by revert c; decide

/-- The rotation by `k`, as a permutation of the devices. -/
def rotE (k : Fin 4) : Dev nD ≃ Dev nD :=
  ⟨rot k.val, rot (4 - k.val), fun c => by revert k c; decide, fun c => by revert k c; decide⟩

/-! ## The memrefs and cells -/

abbrev xM : Memref sig .tc .vmem S4096x1024 .fp8e4m3 := Memref.whole cc0_stg0_0
abbrev wM : Memref sig .tc .hbm S4096x8192 .f32 := Memref.whole main_arg1
abbrev aM : Memref sig .tc .smem S1 .f32 := Memref.whole cc0_stg1_0
abbrev bM : Memref sig .tc .smem S1 .f32 := Memref.whole cc0_stg2_0
abbrev oM : Memref sig .tc .vmem S1024x8192 .f32 := Memref.whole cc0_stg3_0
abbrev gM : Memref sig .tc .vmem S4x1024x1024 .fp8e4m3 := Memref.whole cc0_scratch0
abbrev tM : Memref sig .tc .vmem S4x1024x1024 .f32 := Memref.whole cc0_scratch1
abbrev eM : Memref sig .tc .vmem S2x1024x1024 .fp8e4m3 := Memref.whole cc0_scratch2

/-- The 1024 rows of `x` from row `o 0` on. -/
abbrev rowAt (o : Fin 2 → ℕ) (h : ∀ a, o a + S1024x1024.size a ≤ S4096x1024.size a) : Memref sig .tc .vmem S1024x1024 .fp8e4m3 :=
  xM.slice (Rect.unit (s := S4096x1024) o S1024x1024.size h) (fun _ => rfl)
/-- Slot `o 0` of the gather scratch. -/
abbrev landAt (o : Fin 3 → ℕ) (h : ∀ a, o a + S1x1024x1024.size a ≤ S4x1024x1024.size a) : Memref sig .tc .vmem S1024x1024 .fp8e4m3 :=
  (gM.slice (Rect.unit (s := S4x1024x1024) o S1x1024x1024.size h) (fun _ => rfl)).squeeze S1024x1024 squeezes_S1x1024x1024_S1024x1024

/-- The rows of `x` meant for device `d`. -/
abbrev rowM (d : Dev nD) : Memref sig .tc .vmem S1024x1024 .fp8e4m3 := rowAt (k0_off9 d) (k0_off9_inb d)
/-- The slot of the gather scratch device `s` fills. -/
abbrev landM (s : Dev nD) : Memref sig .tc .vmem S1024x1024 .fp8e4m3 := landAt (k0_off2 s) (k0_off2_inb s)

theorem rowAt_congr {o o' : Fin 2 → ℕ} (h) (h') (e : o = o') : rowAt o h = rowAt o' h' := by subst e; rfl
theorem landAt_congr {o o' : Fin 3 → ℕ} (h) (h') (e : o = o') : landAt o h = landAt o' h' := by subst e; rfl

abbrev barS : Sem sig := (SemArray.scalar (sig.barrier 0 rfl) : Sems sig S_).sem
abbrev sendS (k : Fin 3) : DmaSem sig := ![4, 5, 6] k
abbrev recvS (s : Dev nD) : DmaSem sig := ![7, 8, 9, 10] s
abbrev ringS (k : Fin 4) : DmaSem sig := ![11, 12, 13, 14] k

abbrev barCell (c : Dev nD) : GSem nD τ sig := ((c : Thread nD τ), .reg barS)
abbrev sendCell (c : Dev nD) (k : Fin 3) : GSem nD τ sig := ((c : Thread nD τ), .dma (sendS k))
abbrev recvCell (c s : Dev nD) : GSem nD τ sig := ((c : Thread nD τ), .dma (recvS s))
abbrev ringCell (c : Dev nD) (k : Fin 4) : GSem nD τ sig := ((c : Thread nD τ), .dma (ringS k))

/-- The credit of one block. -/
abbrev N : ℕ := (landM 0).view.dmaCredit
theorem N_pos : 0 < N := View.dmaCredit_pos _ (by decide)

/-! ## Contents -/

/-- `x` staged on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- The gather scratch of device `d` once all have landed: slot `s` holds rows `d` of device `s`'s `x`. -/
def gath (d : Dev nD) : (cc0_scratch0 : Ref sig .tc).ty.Contents (Elt F) := fun i =>
  (rowM d).view.read (Elt F) (xstg m ρ (i (0 : Fin 3))) (fun a => match a with
    | ⟨0, _⟩ => i (1 : Fin 3)
    | ⟨1, _⟩ => i (2 : Fin 3))

def landPts (d s : Dev nD) (f : (cc0_scratch0 : Ref sig .tc).ty.Contents (Elt F)) : sProp 𝕄 :=
  (landM s).view.loc (d : Thread nD τ) ↦[(landM s).view.set]{fullShare} f
def rowPts (c d : Dev nD) : sProp 𝕄 :=
  (rowM d).view.loc (c : Thread nD τ) ↦[(rowM d).view.set]{fullShare} xstg m ρ c

omit [FloatOps F] in
instance landPts_storable (d s : Dev nD) (f) : BI.Storable (upEmb : UEmb _ 𝕄) (landPts (F := F) d s f) := by unfold landPts; infer_instance
omit [FloatOps F] in
instance rowPts_storable (c d : Dev nD) : BI.Storable (upEmb : UEmb _ 𝕄) (rowPts (F := F) m ρ c d) := by unfold rowPts; infer_instance

/-! ## The schedule -/

/-- What peer `p` hands `c`: slot `c` of `p`'s gather scratch, and that `p` is at round 0 of the receive cell `c`. -/
def barPay (c p : Dev nD) : sProp 𝕄 := iprop((∃ f, landPts p c f) ∗ reached ER (recvCell p c) 0)

/-- The duties of a cell at round 0. -/
def duties₀ (c : Dev nD) : SemLoc sig → Finset (Fin 4)
  | .reg s => if s = barS then {1, 2, 3} else ∅
  | .dma q => if q ∈ [sendS 0, sendS 1, sendS 2] then {0}
      else if q ∈ [recvS (rot 1 c), recvS (rot 2 c), recvS (rot 3 c)] then {0} else ∅

/-- Their payloads: by semaphore, then by duty. -/
def pay₀ (c : Dev nD) (d : Fin 4) : SemLoc sig → sProp 𝕄
  | .reg _ => barPay c (rot d.val c)
  | .dma q => if q.val < 7 then rowPts m ρ c (rot (q.val - 3) c) else landPts c ⟨(q.val - 7) % 4, Nat.mod_lt _ (by decide)⟩ (gath m ρ c)

def amt₀ : SemLoc sig → ℕ
  | .reg _ => 1
  | .dma _ => N

def rd : Rounds.Schedule (GSem nD τ sig) (Fin 4) 𝕄 where
  duties g r := if r = 0 ∧ g.1.2 = .tc then duties₀ g.1.1 g.2 else ∅
  unitless _ := False
  amount g _ _ := amt₀ g.2
  payload g _ d := pay₀ m ρ g.1.1 d g.2
  amount_pos g _ _ _ := by
    rcases g with ⟨_, _ | _⟩
    · exact Nat.one_pos
    · exact N_pos

instance rd_payload_storable (g : GSem nD τ sig) (r : ℕ) (d : Fin 4) :
    BI.Storable (upEmb : UEmb _ 𝕄) ((rd (F := F) m ρ).payload g r d) := by
  show BI.Storable upEmb (pay₀ m ρ g.1.1 d g.2)
  rcases g with ⟨g, s | q⟩
  · dsimp only [pay₀]; unfold barPay; infer_instance
  · dsimp only [pay₀]; split <;> infer_instance

section Sched
variable (c : Dev nD)

omit [FloatOps F] in
theorem duties_bar : (rd (F := F) m ρ).duties (barCell c) 0 = {1, 2, 3} := by
  dsimp only [rd]; rw [if_pos ⟨rfl, rfl⟩]; dsimp only [duties₀]; exact if_pos rfl
omit [FloatOps F] in
theorem duties_send (k : Fin 3) : (rd (F := F) m ρ).duties (sendCell c k) 0 = {0} := by
  dsimp only [rd]; rw [if_pos ⟨rfl, rfl⟩]; dsimp only [duties₀]; exact if_pos (by revert k; decide)
omit [FloatOps F] in
theorem duties_recv (k : Fin 3) : (rd (F := F) m ρ).duties (recvCell c (rot (k.val + 1) c)) 0 = {0} := by
  dsimp only [rd]; rw [if_pos ⟨rfl, rfl⟩]; dsimp only [duties₀]
  rw [if_neg (by revert k c; decide)]; exact if_pos (by revert k c; decide)
omit [FloatOps F] in
/-- Device `c`'s copy to device `rot (k + 1) c` is the duty of the receive cell `c` there. -/
theorem duties_recv_peer (k : Fin 3) : (rd (F := F) m ρ).duties (recvCell (rot (k.val + 1) c) c) 0 = {0} := by
  dsimp only [rd]; rw [if_pos ⟨rfl, rfl⟩]; dsimp only [duties₀]
  rw [if_neg (by revert k c; decide)]; exact if_pos (by revert k c; decide)
omit [FloatOps F] in
theorem duties_recv_own : (rd (F := F) m ρ).duties (recvCell c c) 0 = ∅ := by
  dsimp only [rd]; rw [if_pos ⟨rfl, rfl⟩]; dsimp only [duties₀]
  rw [if_neg (by revert c; decide)]; exact if_neg (by revert c; decide)
omit [FloatOps F] in
theorem duties_later (g : GSem nD τ sig) : ∀ r, 1 ≤ r → (rd (F := F) m ρ).duties g r = ∅ :=
  fun r hr => by dsimp only [rd]; exact if_neg fun h => by omega
omit [FloatOps F] in
theorem duties_own (r : ℕ) (_ : 0 ≤ r) : (rd (F := F) m ρ).duties (recvCell c c) r = ∅ := by
  rcases r with _ | r
  · exact duties_recv_own m ρ c
  · exact duties_later m ρ _ _ (Nat.succ_le_succ (Nat.zero_le r))

omit [FloatOps F] in
theorem expect_bar : (rd (F := F) m ρ).expect (barCell c) 0 = 3 := by
  unfold Schedule.expect Schedule.amountOf
  rw [duties_bar]; rfl
omit [FloatOps F] in
theorem expect_send (k : Fin 3) : (rd (F := F) m ρ).expect (sendCell c k) 0 = N := by
  unfold Schedule.expect Schedule.amountOf; rw [duties_send, Finset.sum_singleton]; rfl
omit [FloatOps F] in
theorem expect_recv (k : Fin 3) : (rd (F := F) m ρ).expect (recvCell c (rot (k.val + 1) c)) 0 = N := by
  unfold Schedule.expect Schedule.amountOf; rw [duties_recv, Finset.sum_singleton]; rfl

omit [FloatOps F] in
theorem payload_bar (d : Fin 4) : (rd (F := F) m ρ).payload (barCell c) 0 d = barPay c (rot d.val c) := rfl
omit [FloatOps F] in
theorem payload_send (k : Fin 3) (d : Fin 4) : (rd (F := F) m ρ).payload (sendCell c k) 0 d = rowPts m ρ c (rot (k.val + 1) c) := by
  fin_cases k <;> rfl
omit [FloatOps F] in
theorem payload_recv (s : Dev nD) (d : Fin 4) : (rd (F := F) m ρ).payload (recvCell c s) 0 d = landPts c s (gath m ρ c) := by
  fin_cases s <;> rfl

omit [FloatOps F] in
/-- The barrier cell's round whole: the three peers' slots. -/
theorem rest_bar : bigSep ((rd (F := F) m ρ).duties (barCell c) 0 \ ∅) (fun d => (rd (F := F) m ρ).payload (barCell c) 0 d)
    = iprop(barPay c (rot 1 c) ∗ barPay c (rot 2 c) ∗ barPay c (rot 3 c)) := by
  rw [Finset.sdiff_empty, duties_bar, bigSep_eq_bigSepL_of_eq [1, 2, 3] (by decide) (by decide)]; rfl
omit [FloatOps F] in
theorem rest_send (k : Fin 3) : bigSep ((rd (F := F) m ρ).duties (sendCell c k) 0 \ ∅) (fun d => (rd (F := F) m ρ).payload (sendCell c k) 0 d)
    = rowPts m ρ c (rot (k.val + 1) c) := by
  rw [Finset.sdiff_empty, duties_send, bigSep_singleton, payload_send]
omit [FloatOps F] in
theorem rest_recv (k : Fin 3) : bigSep ((rd (F := F) m ρ).duties (recvCell c (rot (k.val + 1) c)) 0 \ ∅)
      (fun d => (rd (F := F) m ρ).payload (recvCell c (rot (k.val + 1) c)) 0 d)
    = landPts c (rot (k.val + 1) c) (gath m ρ c) := by
  rw [Finset.sdiff_empty, duties_recv, bigSep_singleton, payload_recv]

end Sched

/-! ## What each device owes at launch; the levels -/

/-- The receive credits a device owes, in the order its copies pay them from the end. -/
def OR (c : Dev nD) : CellTallies nD τ sig Unit :=
  tallyAt (recvCell (rot 3 c) c) () N + tallyAt (recvCell (rot 2 c) c) () N + tallyAt (recvCell (rot 1 c) c) () N
/-- And the three barrier units, paid first. -/
def O₀ (c : Dev nD) : CellTallies nD τ sig Unit :=
  OR c + tallyAt (barCell (rot 3 c)) () 1 + tallyAt (barCell (rot 2 c)) () 1 + tallyAt (barCell (rot 1 c)) () 1

def L (g : GSem nD τ sig) : Finset Unit := if g.1.2 = .tc then {()} else ∅
/-- Barrier cells at 1, receive cells at 2, the others (staging, send, weight ring) at 0. -/
def lv (g : GSem nD τ sig) (_ : Unit) : ℕ := match g.2 with
  | .reg _ => 1
  | .dma q => if 7 ≤ q.val ∧ q.val < 11 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c s : Dev nD) (u : Unit) : lv (recvCell c s) u = 2 := by
  show (if 7 ≤ (recvS s).val ∧ (recvS s).val < 11 then 2 else 0) = 2
  exact if_pos (by revert s; decide)

theorem pos_add {O P : CellTallies nD τ sig Unit} {g : GSem nD τ sig} {u : Unit} (h : 0 < (O + P) g u) : 0 < O g u ∨ 0 < P g u := by
  rw [Pi.add_apply, Finsupp.add_apply] at h; omega
theorem pos_at {g g' : GSem nD τ sig} {n : ℕ} {u : Unit} (h : 0 < (tallyAt g () n : CellTallies nD τ sig Unit) g' u) : g' = g := by
  rw [tallyAt_apply] at h
  by_contra hn
  rw [if_neg fun h' => hn h'.1] at h; exact Nat.lt_irrefl 0 h

theorem OR_pos {c : Dev nD} {g : GSem nD τ sig} {u : Unit} (h : 0 < OR c g u) : ∃ d, g = recvCell d c := by
  rcases pos_add h with h | h
  · rcases pos_add h with h | h <;> exact ⟨_, pos_at h⟩
  · exact ⟨_, pos_at h⟩
theorem O₀_pos {c : Dev nD} {g : GSem nD τ sig} {u : Unit} (h : 0 < O₀ c g u) : (∃ d, g = recvCell d c) ∨ ∃ d, g = barCell d := by
  rcases pos_add h with h | h
  · rcases pos_add h with h | h
    · rcases pos_add h with h | h
      · exact .inl (OR_pos h)
      · exact .inr ⟨_, pos_at h⟩
    · exact .inr ⟨_, pos_at h⟩
  · exact .inr ⟨_, pos_at h⟩

omit [FloatOps F] in
/-- A staging cell may be waited for at either end of the body. -/
theorem mayWait_stage (c : Dev nD) (q : DmaSem sig) (hq : ¬(7 ≤ q.val ∧ q.val < 11)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact (if_neg hq).le)
      (fun g u hg => by
        rcases O₀_pos hg with ⟨d, rfl⟩ | ⟨d, rfl⟩
        · rw [lv_recv]; decide
        · rw [lv_bar]; decide)
  · rw [MayWait_zero]; iintro -; iempintro

omit [FloatOps F] in
/-- At its barrier wait a device owes receive credits only, which lie above its barrier cell. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨d, rfl⟩ := OR_pos hg; exact Finset.mem_singleton_self _)
    (fun p hp => by rw [Finset.mem_singleton.mp hp, lv_bar])
    (fun g u hg => by obtain ⟨d, rfl⟩ := OR_pos hg; rw [lv_recv]; decide)

end Cert.KernelIdeal.Run

end
-- ==== Proof.KernelIdeal.Head.lean ====
/-
# `KernelIdeal`: the handshake and the three sends

The first two parts of the body, on any device `c`: it tells each peer that it is there, handing over the slot of its gather
scratch that peer fills; it waits for the three peers; it starts the copy of its rows to each of them; it reads the scales.
The names the launch allocates the cells' invariants at are a parameter `K`.
-/
module

public import proofs.«01_k».proof.Proof.KernelIdeal.Proto
public import Idealize.ShloMosaic.Lib.ValueLayout

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

/-! ## The cells of all devices, and what everyone knows of them -/

/-- The semaphores of the protocol on a device: the barrier, the three sends, the four receives. -/
def csem : Fin 8 → SemLoc sig :=
  ![.reg barS, .dma (sendS 0), .dma (sendS 1), .dma (sendS 2), .dma (recvS 0), .dma (recvS 1), .dma (recvS 2), .dma (recvS 3)]
abbrev kcell (ck : Dev nD × Fin 8) : GSem nD τ sig := ((ck.1 : Thread nD τ), csem ck.2)
/-- The place of send cell `k` and of receive cell `s` among the eight. -/
def kS (k : Fin 3) : Fin 8 := ⟨k.val + 1, by omega⟩
def kR (s : Dev nD) : Fin 8 := ⟨s.val + 4, Nat.add_lt_add_right s.isLt 4⟩

theorem kcell_bar (c : Dev nD) : kcell (c, 0) = barCell c := rfl
theorem kcell_send (c : Dev nD) (k : Fin 3) : kcell (c, kS k) = sendCell c k := by fin_cases k <;> rfl
theorem kcell_recv (c s : Dev nD) : kcell (c, kR s) = recvCell c s := by fin_cases s <;> rfl

/-- Every cell of the four devices runs the schedule, and has reached its round 0. -/
def records (K : Dev nD × Fin 8 → ℕ) : sProp 𝕄 :=
  iprop((bigSep Finset.univ fun ck : Dev nD × Fin 8 => cellInv ER (rd m ρ) (K ck) (kcell ck))
    ∗ bigSep Finset.univ fun ck : Dev nD × Fin 8 => reached ER (kcell ck) 0)

instance records_persistent (K : Dev nD × Fin 8 → ℕ) : BI.Persistent (records (F := F) m ρ K) := by unfold records; infer_instance

variable (K : Dev nD × Fin 8 → ℕ)

theorem inv_at (ck : Dev nD × Fin 8) : records (F := F) m ρ K ⊢ cellInv ER (rd m ρ) (K ck) (kcell ck) := by
  unfold records
  exact sep_elim_left.trans (bigSep_elim (Finset.mem_univ ck))
theorem reached_at (ck : Dev nD × Fin 8) : records (F := F) m ρ K ⊢ reached ER (kcell ck) 0 := by
  unfold records
  exact sep_elim_right.trans (bigSep_elim (Finset.mem_univ ck))

theorem inv_bar (c : Dev nD) : records (F := F) m ρ K ⊢ cellInv ER (rd m ρ) (K (c, 0)) (barCell c) := inv_at m ρ K (c, 0)
theorem inv_send (c : Dev nD) (k : Fin 3) : records (F := F) m ρ K ⊢ cellInv ER (rd m ρ) (K (c, kS k)) (sendCell c k) := by
  rw [← kcell_send]; exact inv_at m ρ K (c, kS k)
theorem inv_recv (c s : Dev nD) : records (F := F) m ρ K ⊢ cellInv ER (rd m ρ) (K (c, kR s)) (recvCell c s) := by
  rw [← kcell_recv]; exact inv_at m ρ K (c, kR s)
theorem reached_bar (c : Dev nD) : records (F := F) m ρ K ⊢ reached ER (barCell c) 0 := reached_at m ρ K (c, 0)
theorem reached_send (c : Dev nD) (k : Fin 3) : records (F := F) m ρ K ⊢ reached ER (sendCell c k) 0 := by
  rw [← kcell_send]; exact reached_at m ρ K (c, kS k)
theorem reached_recv (c s : Dev nD) : records (F := F) m ρ K ⊢ reached ER (recvCell c s) 0 := by
  rw [← kcell_recv]; exact reached_at m ρ K (c, kR s)

/-! ## The handshake -/

theorem rot_rot (i : Fin 4) (c : Dev nD) : rot (4 - i.val) (rot i.val c) = c := by revert i c; decide
theorem amount_bar (c : Dev nD) (d : Fin 4) : (rd (F := F) m ρ).amount (barCell c) 0 d = 1 := rfl

/-- One signal: device `c` to the peer `i` places on, naming its duty there by the distance back. -/
theorem wp_greet (c n : Dev nD) (i j : Fin 4) (hn : n = rot i.val c) (hj : (j : ℕ) = 4 - i.val) (hj' : j ∈ ({1, 2, 3} : Finset (Fin 4)))
    (O O' : CellTallies nD τ sig Unit) (hO : O = O' + tallyAt (barCell (rot i.val c)) () 1) (W : Waits sig Unit) {k' : ℕ} (hk : k' = 1)
    {α : Type} {Q : α → sProp 𝕄} {k : PUnit → Prog (TpuEff nD τ sig (Elt F) Λ₀ .tc) α} :
    iprop(records m ρ K ∗ owes (c : Thread nD τ) O W ∗ dutyTok ER (barCell (rot i.val c)) 0 j ∗ (∃ f, landPts c (rot i.val c) f))
      ⊢ iprop((owes (c : Thread nD τ) O' W -∗ wp frame (wpE (defs₀ (F := F)) Variants.none (c : Thread nD τ) none) Set.univ (k ⟨⟩) Q)
        -∗ wp frame (wpE (defs₀ (F := F)) Variants.none (c : Thread nD τ) none) Set.univ (.op (.semSignal (n : Thread nD τ) barS k') k) Q) := by
  subst hn hk
  iintro ⟨#HR, HO, HT, HL⟩ HK
  iapply (Rounds.wp_signal Variants.none ER (rd (F := F) m ρ) (c : Thread nD τ) none (dst := (rot i.val c : Thread nD τ)) (κ := K (rot i.val c, 0))
      (d := j) (by rw [duties_bar]; exact hj') (amount_bar m ρ (rot i.val c) j) () O' hO) $$ [HO HT HL]
  · isplitr; · iapply (inv_bar m ρ K (rot i.val c)); iexact HR
    isplitl [HO]; · iexact HO
    isplitl [HT]; · iexact HT
    isplitl [HL]
    · rw [payload_bar, hj, rot_rot]; unfold barPay
      isplitl [HL]; · iexact HL
      iapply (reached_recv m ρ K c (rot i.val c)); iexact HR
    · iapply (reached_bar m ρ K (rot i.val c)); iexact HR
  iexact HK

def greetPre (c : Dev nD) (W : Waits sig Unit) : sProp 𝕄 :=
  iprop(records m ρ K ∗ levAts L lv ∗ owes (c : Thread nD τ) (O₀ c) W
    ∗ (dutyTok ER (barCell (rot 1 c)) 0 3 ∗ dutyTok ER (barCell (rot 2 c)) 0 2 ∗ dutyTok ER (barCell (rot 3 c)) 0 1)
    ∗ ((∃ f, landPts c (rot 1 c) f) ∗ (∃ f, landPts c (rot 2 c) f) ∗ (∃ f, landPts c (rot 3 c) f))
    ∗ cred (tallyAt (barCell c) () 3) ∗ atPos ER (barCell c) 0 ∅ 0)
def greetPost (c : Dev nD) : sProp 𝕄 :=
  iprop((∃ W, owes (c : Thread nD τ) (OR c) W) ∗ atPos ER (barCell c) 1 ∅ 0
    ∗ (∃ f, landPts (rot 1 c) c f) ∗ (∃ f, landPts (rot 2 c) c f) ∗ (∃ f, landPts (rot 3 c) c f))

/-- The part of the handshake: it hands the slots of `c`'s gather scratch out and obtains slot `c` of the peers'. -/
theorem part1_wp (c : Dev nD) (W : Waits sig Unit) (Q : (Σ' (_ : Dev nD), BitVec 32) → sProp 𝕄) :
    iprop(greetPre m ρ K c W ∗ (∀ v, greetPost c -∗ Q ⟨c, v⟩))
      ⊢ wp frame (wpE (defs₀ (F := F)) Variants.none (c : Thread nD τ) none) Set.univ
          (k0_part1 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5) Q := by
  simp only [k0_part1_eq_skeleton]; unfold k0_part1_skel
  simp only [semSignalWord, semWaitWord, Prog.lift, Prog.bind_op, Prog.bind_ret, Prog.pure_eq_ret, wp_deviceId]
  unfold greetPre
  iintro ⟨⟨#HR, #Hlev, HO, ⟨T1, T2, T3⟩, ⟨L1, L2, L3⟩, HC, HA⟩, HQ⟩
  iapply (wp_greet m ρ K c _ 1 3 (dev1_eq c) rfl (by decide) (O₀ c) _ rfl W (by decide)) $$ [HO T1 L1]
  · isplitr; · iexact HR
    isplitl [HO]; · iexact HO
    isplitl [T1]; · iexact T1
    iexact L1
  iintro HO
  iapply (wp_greet m ρ K c _ 2 2 (dev2_eq c) rfl (by decide) _ _ rfl W (by decide)) $$ [HO T2 L2]
  · isplitr; · iexact HR
    isplitl [HO]; · iexact HO
    isplitl [T2]; · iexact T2
    iexact L2
  iintro HO
  iapply (wp_greet m ρ K c _ 3 1 (dev3_eq c) rfl (by decide) _ (OR c) rfl W (by decide)) $$ [HO T3 L3]
  · isplitr; · iexact HR
    isplitl [HO]; · iexact HO
    isplitl [T3]; · iexact T3
    iexact L3
  iintro HO
  iapply (Rounds.wp_wait_rest_token Variants.none ER (rd (F := F) m ρ) (c : Thread nD τ) none (κ := K (c, 0))
      (wpE_semWait_eq Variants.none (c : Thread nD τ) none Set.univ) (Set.mem_univ _) () (O := OR c) (W := W) (R := 0) (m := 0) (T := ∅)
      (by rw [expect_bar]; decide)) $$ [HC HO HA]
  · isplitr; · iapply (inv_bar m ρ K c); iexact HR
    isplitl [HC]; · iexact HC
    isplitl [HO]; · iexact HO
    isplitr; · iapply (mayWait_bar c); iexact Hlev
    iexact HA
  iintro ⟨HO, HA, -, HP⟩
  ihave HP := (Entails.of_eq (rest_bar m ρ c)) $$ HP
  unfold barPay
  icases HP with ⟨⟨P1, -⟩, ⟨P2, -⟩, P3, -⟩
  iapply (Entails.of_eq (wp_ret _ _ _ _ _).symm); imodintro
  iapply HQ
  unfold greetPost
  isplitl [HO]; · iexists _; iexact HO
  isplitl [HA]; · iexact HA
  isplitl [P1]; · iexact P1
  isplitl [P2]; · iexact P2
  iexact P3

/-! ## The sends -/

/-- Slot `s` of the gather scratch of device `d` at its final contents reads as device `s`'s rows `d`. -/
theorem read_gath (d s : Dev nD) {o : Fin 3 → ℕ} (h : ∀ a, o a + S1x1024x1024.size a ≤ S4x1024x1024.size a) (e : o = ![s.val, 0, 0]) :
    (landAt o h).view.read (Elt F) (gath m ρ d) = (rowM d).view.read (Elt F) (xstg m ρ s) := by
  subst e
  funext y
  have hy : y = ix2 (n0 := 1024) (n1 := 1024) (y (0 : Fin 2)) (y (1 : Fin 2)) := by funext a; fin_cases a <;> rfl
  have hr : Shape.reshapeEquiv (squeezes_S1x1024x1024_S1024x1024 : S1x1024x1024.Squeezes S1024x1024).numel_eq y
      = ix3 (⟨0, Nat.one_pos⟩ : Fin 1) (y (0 : Fin 2)) (y (1 : Fin 2)) := by
    conv_lhs => rw [hy]
    exact reshapeEquiv_ix2_1ab _ _ _
  show gath m ρ d ((Rect.unit (s := S4x1024x1024) ![s.val, 0, 0] S1x1024x1024.size h).emb
    (Shape.reshapeEquiv (squeezes_S1x1024x1024_S1024x1024 : S1x1024x1024.Squeezes S1024x1024).numel_eq y)) = _
  rw [hr]
  unfold gath
  have h0 : ((Rect.unit (s := S4x1024x1024) ![s.val, 0, 0] S1x1024x1024.size h).emb (ix3 (⟨0, Nat.one_pos⟩ : Fin 1) (y (0 : Fin 2)) (y (1 : Fin 2)))) (0 : Fin 3)
      = (s : Fin 4) := Fin.ext (show s.val + 1 * 0 = s.val by omega)
  refine congrArg₂ (fun (a : Dev nD) (z : S1024x1024.Idx) => (rowM d).view.read (Elt F) (xstg m ρ a) z) h0 (funext fun a => ?_)
  fin_cases a
  · exact Fin.ext (show 0 + 1 * (y (0 : Fin 2)).val = (y (0 : Fin 2)).val by omega)
  · exact Fin.ext (show 0 + 1 * (y (1 : Fin 2)).val = (y (1 : Fin 2)).val by omega)

/-- What a copy of device `c`'s rows `d` leaves in slot `c` of device `d`: the final contents of that slot. -/
theorem gath_write (c d : Dev nD) (f : (cc0_scratch0 : Ref sig .tc).ty.Contents (Elt F)) :
    ∀ i ∈ (landM c).view.set, (landM c).view.write (Elt F) f ((rowM d).view.read (Elt F) (xstg m ρ c)) Finset.univ i = gath m ρ d i := by
  intro i hi
  obtain ⟨y, -, rfl⟩ := Finset.mem_map.mp hi
  refine (View.write_emb_of_mem (v := (landM c).view) f _ (Finset.mem_univ y)).trans ?_
  rw [← read_gath m ρ d c (k0_off2_inb c) (k0_off2_eq c)]
  rfl

theorem amount_send (c : Dev nD) (k : Fin 3) (d : Fin 4) : (rd (F := F) m ρ).amount (sendCell c k) 0 d = N := rfl
theorem amount_recv (c s : Dev nD) (d : Fin 4) : (rd (F := F) m ρ).amount (recvCell c s) 0 d = N := rfl

theorem rowAt_eq (c : Dev nD) (k : Fin 3) (h) : rowAt (k0_off3 c (BitVec.ofNat 32 (1 + k.val))) h = rowM (rot (k.val + 1) c) :=
  rowAt_congr _ _ (by rw [k0_off3_eq, k0_off9_eq]; rw [Nat.add_assoc]; rfl)

theorem land_amount (c : Dev nD) (q : DmaSem sig) : (landM c).view.amount (.dma q) = N := rfl
theorem land_paid (c d : Dev nD) (f : (cc0_scratch0 : Ref sig .tc).ty.Contents (Elt F)) (e : Fin 4) :
    ((landM c).view.loc (d : Thread nD τ) ↦[(landM c).view.set]{fullShare}
        ((landM c).view.write (Elt F) f ((rowM d).view.read (Elt F) (xstg m ρ c)) Finset.univ) : sProp 𝕄)
      ⊢ (rd (F := F) m ρ).payload (recvCell d c) 0 e := by
  rw [payload_recv]; unfold landPts; rw [pointsTo_congr (gath_write m ρ c d f)]
theorem row_paid (c : Dev nD) (k : Fin 3) (e : Fin 4) :
    ((rowM (rot (k.val + 1) c)).view.loc (c : Thread nD τ) ↦[(rowM (rot (k.val + 1) c)).view.set]{fullShare} xstg m ρ c : sProp 𝕄)
      ⊢ (rd (F := F) m ρ).payload (sendCell c k) 0 e := by
  rw [payload_send]; exact BI.Entails.refl _

/-- The library's rule of an addressed copy, at device `c`'s send to the peer `k + 1` places on. -/
theorem wp_post_at (c : Dev nD) (k : Fin 3) (κ₁ κ₂ : ℕ) (m : (ℓ : Loc nD τ sig) → Buf (Elt F) ℓ) (ρ : Dev nD → PrngReg)
    (f : (cc0_scratch0 : Ref sig .tc).ty.Contents (Elt F))
    (O O' : CellTallies nD τ sig Unit) (hO : O = O' + tallyAt (recvCell (rot (k.val + 1) c) c) () N) (W : Waits sig Unit)
    {hsc : (landM c : Memref sig (Dev.tc (rot (k.val + 1) c) : Thread nD τ).2.kind .vmem S1024x1024 .fp8e4m3).view.ref.isScScratch = false}
    {hsrc : (rowM (rot (k.val + 1) c)).view.WordExact} {hdst : (landM c).view.WordExact}
    {hsem : DmaTarget.Typed .vmem (.dma (recvS c)) (.remote (Dev.tc (rot (k.val + 1) c) : Thread nD τ) (landM c) (.dma (sendS k)) hsc)}
    {α : Type} {Q : α → sProp 𝕄} {K' : PUnit → Prog (TpuEff nD τ sig (Elt F) Λ₀ .tc) α} :
    iprop(cellInv ER (rd m ρ) κ₁ (sendCell c k) ∗ cellInv ER (rd m ρ) κ₂ (recvCell (rot (k.val + 1) c) c)
        ∗ rowPts m ρ c (rot (k.val + 1) c) ∗ landPts (rot (k.val + 1) c) c f
        ∗ owes (c : Thread nD τ) O W
        ∗ dutyTok ER (sendCell c k) 0 0 ∗ reached ER (sendCell c k) 0
        ∗ dutyTok ER (recvCell (rot (k.val + 1) c) c) 0 0 ∗ reached ER (recvCell (rot (k.val + 1) c) c) 0)
      ⊢ iprop(((cred (tallyAt (sendCell c k) () N) ∗ owes (c : Thread nD τ) O' W)
            -∗ wp frame (wpE (defs₀ (F := F)) Variants.none (c : Thread nD τ) none) Set.univ (K' ⟨⟩) Q)
        -∗ wp frame (wpE (defs₀ (F := F)) Variants.none (c : Thread nD τ) none) Set.univ
            (.op (.enqueueDma (rowM (rot (k.val + 1) c)) (.remote (Dev.tc (rot (k.val + 1) c) : Thread nD τ) (landM c) (.dma (sendS k)) hsc) (.dma (recvS c)) hsrc hdst hsem) K') Q) := by
  unfold rowPts landPts
  exact Rounds.wp_send_pointsTo Variants.none ER (rd (F := F) m ρ) (c : Thread nD τ) none (κ₁ := κ₁) (κ₂ := κ₂)
    (r₁ := 0) (r₂ := 0) (d₁ := 0) (d₂ := 0) (fd := f)
    (by rw [duties_send]; exact Finset.mem_singleton_self _) (by rw [duties_recv_peer]; exact Finset.mem_singleton_self _)
    () () N (land_amount c (recvS c)) (amount_send m ρ c k 0) (amount_recv m ρ (rot (k.val + 1) c) c 0) O' hO (W := W)
    (row_paid m ρ c k 0) (land_paid m ρ c (rot (k.val + 1) c) f 0)

/-- One send: device `c` copies its rows to the peer `k + 1` places on. -/
theorem wp_post (c n : Dev nD) (k : Fin 3) (hn : n = rot (k.val + 1) c) (src : Memref sig .tc .vmem S1024x1024 .fp8e4m3) (hs : src = rowM (rot (k.val + 1) c))
    {sS sR : SemLoc sig} (hS : sS = .dma (sendS k)) (hR : sR = .dma (recvS c))
    (O O' : CellTallies nD τ sig Unit) (hO : O = O' + tallyAt (recvCell (rot (k.val + 1) c) c) () N) (W : Waits sig Unit)
    {hsc : (landM c : Memref sig (Dev.tc n : Thread nD τ).2.kind .vmem S1024x1024 .fp8e4m3).view.ref.isScScratch = false}
    {hsrc : src.view.WordExact} {hdst : (landM c).view.WordExact}
    {hsem : DmaTarget.Typed .vmem sR (.remote (Dev.tc n : Thread nD τ) (landM c) sS hsc)}
    {α : Type} {Q : α → sProp 𝕄} {K' : PUnit → Prog (TpuEff nD τ sig (Elt F) Λ₀ .tc) α} :
    iprop(records m ρ K ∗ owes (c : Thread nD τ) O W ∗ rowPts m ρ c (rot (k.val + 1) c) ∗ (∃ f, landPts (rot (k.val + 1) c) c f)
        ∗ dutyTok ER (sendCell c k) 0 0 ∗ dutyTok ER (recvCell (rot (k.val + 1) c) c) 0 0)
      ⊢ iprop((cred (tallyAt (sendCell c k) () N) ∗ owes (c : Thread nD τ) O' W
            -∗ wp frame (wpE (defs₀ (F := F)) Variants.none (c : Thread nD τ) none) Set.univ (K' ⟨⟩) Q)
        -∗ wp frame (wpE (defs₀ (F := F)) Variants.none (c : Thread nD τ) none) Set.univ
            (.op (.enqueueDma src (.remote (Dev.tc n : Thread nD τ) (landM c) sS hsc) sR hsrc hdst hsem) K') Q) := by
  subst hn hs hS hR
  iintro ⟨#HR, HO, HX, ⟨%f, HL⟩, TS, TR⟩ HK
  iapply (wp_post_at c k (K (c, kS k)) (K (rot (k.val + 1) c, kR c)) m ρ f O O' hO W) $$ [HO HX HL TS TR]
  · isplitr; · iapply (inv_send m ρ K c k); iexact HR
    isplitr; · iapply (inv_recv m ρ K (rot (k.val + 1) c) c); iexact HR
    isplitl [HX]; · iexact HX
    isplitl [HL]; · iexact HL
    isplitl [HO]; · iexact HO
    isplitl [TS]; · iexact TS
    isplitr; · iapply (reached_send m ρ K c k); iexact HR
    isplitl [TR]; · iexact TR
    iapply (reached_recv m ρ K (rot (k.val + 1) c) c); iexact HR
  iexact HK

/-- The one number a scale's staging holds. -/
def scal (f : S1.Idx → Elt F .f32) : F .f32 := f (fun a => match a with | ⟨0, _⟩ => ⟨0, Nat.one_pos⟩)

theorem scal_a (f : (cc0_stg1_0 : Ref sig .tc).ty.Contents (Elt F)) (x) :
    (aM.access (Rect.unit (s := S1) ![0] S1.size inb_S1_S1_0)).read (Elt F) f x = scal f :=
  congrArg f (funext fun a => by fin_cases a; exact Subsingleton.elim (α := Fin 1) _ _)
theorem scal_b (f : (cc0_stg2_0 : Ref sig .tc).ty.Contents (Elt F)) (x) :
    (bM.access (Rect.unit (s := S1) ![0] S1.size inb_S1_S1_0)).read (Elt F) f x = scal f :=
  congrArg f (funext fun a => by fin_cases a; exact Subsingleton.elim (α := Fin 1) _ _)
theorem pay_of (Q : F .f32 → sProp 𝕄) {x y a b : F .f32} (hx : x = a) (hy : y = b) : Q (k0_pay1 a b) ⊢ Q (k0_pay1 x y) := by
  subst hx hy; exact BI.Entails.refl _

def postPre (c : Dev nD) (W : Waits sig Unit) (fa : (cc0_stg1_0 : Ref sig .tc).ty.Contents (Elt F)) (fb : (cc0_stg2_0 : Ref sig .tc).ty.Contents (Elt F)) : sProp 𝕄 :=
  iprop(records m ρ K ∗ owes (c : Thread nD τ) (OR c) W
    ∗ (rowPts m ρ c (rot 1 c) ∗ rowPts m ρ c (rot 2 c) ∗ rowPts m ρ c (rot 3 c))
    ∗ ((∃ f, landPts (rot 1 c) c f) ∗ (∃ f, landPts (rot 2 c) c f) ∗ (∃ f, landPts (rot 3 c) c f))
    ∗ (dutyTok ER (sendCell c 0) 0 0 ∗ dutyTok ER (sendCell c 1) 0 0 ∗ dutyTok ER (sendCell c 2) 0 0)
    ∗ (dutyTok ER (recvCell (rot 1 c) c) 0 0 ∗ dutyTok ER (recvCell (rot 2 c) c) 0 0 ∗ dutyTok ER (recvCell (rot 3 c) c) 0 0)
    ∗ (aM.view.loc (c : Thread nD τ) ↦{fullShare} fa) ∗ (bM.view.loc (c : Thread nD τ) ↦{fullShare} fb))
def postPost (c : Dev nD) (W : Waits sig Unit) (fa : (cc0_stg1_0 : Ref sig .tc).ty.Contents (Elt F)) (fb : (cc0_stg2_0 : Ref sig .tc).ty.Contents (Elt F)) : sProp 𝕄 :=
  iprop(owes (c : Thread nD τ) 0 W
    ∗ (cred (tallyAt (sendCell c 0) () N) ∗ cred (tallyAt (sendCell c 1) () N) ∗ cred (tallyAt (sendCell c 2) () N))
    ∗ (aM.view.loc (c : Thread nD τ) ↦{fullShare} fa) ∗ (bM.view.loc (c : Thread nD τ) ↦{fullShare} fb))

/-- The part of the sends: it starts the three copies and reads the two scales, whose product it passes on. -/
theorem part2_wp (c : Dev nD) (v : BitVec 32) (W : Waits sig Unit) (fa : (cc0_stg1_0 : Ref sig .tc).ty.Contents (Elt F))
    (fb : (cc0_stg2_0 : Ref sig .tc).ty.Contents (Elt F)) (Q : F .f32 → sProp 𝕄) :
    iprop(postPre m ρ K c W fa fb ∗ (postPost c W fa fb -∗ Q (k0_pay1 (scal fa) (scal fb))))
      ⊢ wp frame (wpE (defs₀ (F := F)) Variants.none (c : Thread nD τ) none) Set.univ
          (k0_part2 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v) Q := by
  simp only [k0_part2_eq_skeleton]; unfold k0_part2_skel
  simp only [smemLoad, smemLoadElt, Prog.lift, Prog.bind_op, Prog.bind_ret, Prog.pure_eq_ret]
  unfold postPre
  iintro ⟨⟨#HR, HO, ⟨X1, X2, X3⟩, ⟨L1, L2, L3⟩, ⟨S1, S2, S3⟩, ⟨R1, R2, R3⟩, HA, HB⟩, HQ⟩
  iapply (wp_post m ρ K c _ 0 (dev4_eq c) _ (rowAt_eq c 0 _) (by decide) (by revert c; decide) (OR c) _ rfl W) $$ [HO X1 L1 S1 R1]
  · isplitr; · iexact HR
    isplitl [HO]; · iexact HO
    isplitl [X1]; · iexact X1
    isplitl [L1]; · iexact L1
    isplitl [S1]; · iexact S1
    iexact R1
  iintro ⟨C1, HO⟩
  iapply (wp_post m ρ K c _ 1 (dev5_eq c) _ (rowAt_eq c 1 _) (by decide) (by revert c; decide) _ _ rfl W) $$ [HO X2 L2 S2 R2]
  · isplitr; · iexact HR
    isplitl [HO]; · iexact HO
    isplitl [X2]; · iexact X2
    isplitl [L2]; · iexact L2
    isplitl [S2]; · iexact S2
    iexact R2
  iintro ⟨C2, HO⟩
  iapply (wp_post m ρ K c _ 2 (dev6_eq c) _ (rowAt_eq c 2 _) (by decide) (by revert c; decide) _ 0 (zero_add _).symm W) $$ [HO X3 L3 S3 R3]
  · isplitr; · iexact HR
    isplitl [HO]; · iexact HO
    isplitl [X3]; · iexact X3
    isplitl [L3]; · iexact L3
    isplitl [S3]; · iexact S3
    iexact R3
  iintro ⟨C3, HO⟩
  iapply (wp_load_rect Variants.none (c : Thread nD τ) none Set.univ (m := aM) (r := Rect.unit (s := S1) ![0] S1.size inb_S1_S1_0) (S := Finset.univ) (Finset.subset_univ _)) $$ HA
  iintro HA
  iapply (wp_load_rect Variants.none (c : Thread nD τ) none Set.univ (m := bM) (r := Rect.unit (s := S1) ![0] S1.size inb_S1_S1_0) (S := Finset.univ) (Finset.subset_univ _)) $$ HB
  iintro HB
  iapply (Entails.of_eq (wp_ret _ _ _ _ _).symm); imodintro
  iapply (pay_of Q (scal_a fa _) (scal_b fb _))
  iapply HQ
  unfold postPost
  isplitl [HO]; · iexact HO
  isplitl [C1 C2 C3]
  · isplitl [C1]; · iexact C1
    isplitl [C2]; · iexact C2
    iexact C3
  isplitl [HA]; · iexact HA
  iexact HB

end Cert.KernelIdeal.Run

end
-- ==== Proof.KernelIdeal.Tile.lean ====
/-
# `KernelIdeal`: what a device's result staging holds at the end

Column block `n` of the result of device `c` is one expression of four tiles of `x` — the device's own rows and the three it
receives — and the four tiles of the weight in the same columns, rounded to eight bits. This module names that expression and
reads a tile of the run as it.
-/
module

public import proofs.«01_k».proof.Proof.KernelIdeal.Proto
public import Idealize.ShloMosaic.Lib.Pipeline.FrameBody
public import Idealize.ShloMosaic.Lib.Pipeline.Value

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ UU ℕ

theorem wInb (c : Dev nD) (j : Fin 4) (n : Fin 8) :
    ∀ a, (![1024 * ((c.val + j.val) % 4), 1024 * n.val] : Fin 2 → ℕ) a + S1024x1024.size a ≤ S4096x8192.size a := by
  revert c j n; decide

abbrev wAt (o : Fin 2 → ℕ) (h : ∀ a, o a + S1024x1024.size a ≤ S4096x8192.size a) : Memref sig .tc .hbm S1024x1024 .f32 :=
  wM.slice (Rect.unit (s := S4096x8192) o S1024x1024.size h) (fun _ => rfl)

/-- The weight tile met against the rows that came from device `c + j`, in column block `n`. -/
def wTile (fw : (main_arg1 : Ref sig .tc).ty.Contents (Elt F)) (c : Dev nD) (j : Fin 4) (n : Fin 8) : FVec F S1024x1024 .f32 :=
  (wAt ![1024 * ((c.val + j.val) % 4), 1024 * n.val] (wInb c j n)).view.read (Elt F) fw

theorem wTile_of (fw : (main_arg1 : Ref sig .tc).ty.Contents (Elt F)) (c : Dev nD) (j : Fin 4) (n : Fin 8) {o : Fin 2 → ℕ}
    (h : ∀ a, o a + S1024x1024.size a ≤ S4096x8192.size a) (e : o = ![1024 * ((c.val + j.val) % 4), 1024 * n.val]) :
    (wAt o h).view.read (Elt F) fw = wTile fw c j n := by subst e; rfl

/-- The product of two tiles, from a zero accumulator. -/
abbrev mm (a b : FVec F S1024x1024 .fp8e4m3) : FVec F S1024x1024 .f32 :=
  matmul dot_S1024x1024_S1024x1024_S1024x1024_1_0_0_1_n_n none a b (constant S1024x1024 .f32 0x00000000#32)

/-- A tile of the result from the scale, the four tiles of `x` and the four of the weight. -/
def tileV (s : F .f32) (x0 x1 x2 x3 : FVec F S1024x1024 .fp8e4m3) (w0 w1 w2 w3 : FVec F S1024x1024 .f32) : FVec F S1024x1024 .f32 :=
  mulf (addf (mm x0 (truncf .fp8e4m3 w0 bitsLt_fp8e4m3_f32))
      (addf (addf (mm x1 (truncf .fp8e4m3 w1 bitsLt_fp8e4m3_f32)) (mm x2 (truncf .fp8e4m3 w2 bitsLt_fp8e4m3_f32)))
        (mm x3 (truncf .fp8e4m3 w3 bitsLt_fp8e4m3_f32))))
    (broadcast S1024x1024 s)

/-- The column block an element of the result lies in, and its place in that block. -/
def blkOf (i : S1024x8192.Idx) : Fin 8 := ⟨(i (1 : Fin 2)).val / 1024, Nat.div_lt_of_lt_mul (i (1 : Fin 2)).isLt⟩
def inBlk (i : S1024x8192.Idx) : S1024x1024.Idx := fun a => match a with
  | ⟨0, _⟩ => i (0 : Fin 2)
  | ⟨1, _⟩ => ⟨(i (1 : Fin 2)).val % 1024, Nat.mod_lt _ (by decide)⟩

/-- The result staging of device `c` at the end: tile by tile. -/
def outOf (s : F .f32) (x0 x1 x2 x3 : FVec F S1024x1024 .fp8e4m3) (fw : (main_arg1 : Ref sig .tc).ty.Contents (Elt F)) (c : Dev nD) :
    (cc0_stg3_0 : Ref sig .tc).ty.Contents (Elt F) := fun i =>
  tileV s x0 x1 x2 x3 (wTile fw c 0 (blkOf i)) (wTile fw c 1 (blkOf i)) (wTile fw c 2 (blkOf i)) (wTile fw c 3 (blkOf i)) (inBlk i)

theorem blkOf_emb (n : Fin 8) (hp : ∀ a, (![0, 1024 * n.val] : Fin 2 → ℕ) a + S1024x1024.size a ≤ S1024x8192.size a) (x : S1024x1024.Idx) :
    blkOf ((Rect.unit (s := S1024x8192) ![0, 1024 * n.val] S1024x1024.size hp).emb x) = n := by
  apply Fin.ext
  show (1024 * n.val + 1 * (x (1 : Fin 2)).val) / 1024 = n.val
  have hx : (x (1 : Fin 2)).val < 1024 := (x (1 : Fin 2)).isLt
  omega
theorem inBlk_emb (n : Fin 8) (hp : ∀ a, (![0, 1024 * n.val] : Fin 2 → ℕ) a + S1024x1024.size a ≤ S1024x8192.size a) (x : S1024x1024.Idx) :
    inBlk ((Rect.unit (s := S1024x8192) ![0, 1024 * n.val] S1024x1024.size hp).emb x) = x := by
  have hx : (x (1 : Fin 2)).val < 1024 := (x (1 : Fin 2)).isLt
  funext a
  match a with
  | ⟨0, _⟩ => exact Fin.ext (show 0 + 1 * (x (0 : Fin 2)).val = (x (0 : Fin 2)).val by omega)
  | ⟨1, _⟩ => exact Fin.ext (show (1024 * n.val + 1 * (x (1 : Fin 2)).val) % 1024 = (x (1 : Fin 2)).val by omega)

theorem outOf_emb (s : F .f32) (x0 x1 x2 x3 : FVec F S1024x1024 .fp8e4m3) (fw : (main_arg1 : Ref sig .tc).ty.Contents (Elt F)) (c : Dev nD) (n : Fin 8)
    (hp : ∀ a, (![0, 1024 * n.val] : Fin 2 → ℕ) a + S1024x1024.size a ≤ S1024x8192.size a) (x : S1024x1024.Idx) :
    outOf s x0 x1 x2 x3 fw c ((Rect.unit (s := S1024x8192) ![0, 1024 * n.val] S1024x1024.size hp).emb x)
      = tileV s x0 x1 x2 x3 (wTile fw c 0 n) (wTile fw c 1 n) (wTile fw c 2 n) (wTile fw c 3 n) x := by
  unfold outOf; rw [blkOf_emb n hp x, inBlk_emb n hp x]

/-- One slot of the weight ring. -/
abbrev slotAt (o : Fin 3 → ℕ) (h : ∀ a, o a + S1x1024x1024.size a ≤ S4x1024x1024.size a) : Memref sig .tc .vmem S1024x1024 .f32 :=
  (tM.slice (Rect.unit (s := S4x1024x1024) o S1x1024x1024.size h) (fun _ => rfl)).squeeze S1024x1024 squeezes_S1x1024x1024_S1024x1024

section Reads
variable [∀ e, Nonempty (Elt F e)]

/-- A slot of the weight ring loaded after a copy filled it: what the copy brought. -/
theorem read_slot (o : Fin 3 → ℕ) (h : ∀ a, o a + S1x1024x1024.size a ≤ S4x1024x1024.size a)
    (f : (cc0_scratch1 : Ref sig .tc).ty.Contents (Elt F)) (w : FVec F S1024x1024 .f32) (L : List (View.Piece (Elt F) S1024x1024 .f32)) :
    shapeCast S1024x1024 (tM.view.readAt (Elt F) (Rect.unit (s := S4x1024x1024) o S1x1024x1024.size h).toLoadRect
      ((slotAt o h).view.writes (Elt F) f (⟨Rect.whole S1024x1024, w⟩ :: L)) : Vec F S1x1024x1024 .f32) shapeCasts_S1x1024x1024_S1024x1024 = w := by
  have hr : shapeCast S1024x1024 (tM.view.readAt (Elt F) (Rect.unit (s := S4x1024x1024) o S1x1024x1024.size h).toLoadRect
      ((slotAt o h).view.writes (Elt F) f (⟨Rect.whole S1024x1024, w⟩ :: L)) : Vec F S1x1024x1024 .f32) shapeCasts_S1x1024x1024_S1024x1024
      = (slotAt o h).view.read (Elt F) ((slotAt o h).view.writes (Elt F) f (⟨Rect.whole S1024x1024, w⟩ :: L)) := rfl
  rw [hr]
  funext y
  have h := View.read_writes_cons_emb (slotAt o h).view f (Rect.whole S1024x1024) w L y
  rwa [Rect.emb_whole_apply] at h

/-- A slot of the rounded weights loaded after its store: the rounded tile. -/
theorem read_w8 (r : Fin 3 → ℕ) (hr : ∀ a, r a + S1x1024x1024.size a ≤ S2x1024x1024.size a) (w : FVec F S1024x1024 .f32)
    (v : Vec F S1x1024x1024 .f32) (hv : shapeCast S1024x1024 v shapeCasts_S1x1024x1024_S1024x1024 = w) (L : List (View.Piece (Elt F) S2x1024x1024 .fp8e4m3)) :
    shapeCast S1024x1024 (eM.view.readCov (⟨Rect.unit (s := S2x1024x1024) r S1x1024x1024.size hr,
        shapeCast S1x1024x1024 (truncf .fp8e4m3 (shapeCast S1024x1024 v shapeCasts_S1x1024x1024_S1024x1024) bitsLt_fp8e4m3_f32 : FVec F S1024x1024 .fp8e4m3) shapeCasts_S1024x1024_S1x1024x1024⟩ :: L)
      (Rect.unit (s := S2x1024x1024) r S1x1024x1024.size hr).toLoadRect : Vec F S1x1024x1024 .fp8e4m3) shapeCasts_S1x1024x1024_S1024x1024
      = truncf .fp8e4m3 w bitsLt_fp8e4m3_f32 := by
  rw [View.readCov_cons_toLoadRect, hv]
  exact shapeCast_shapeCast _ _ _

/-- A weight tile as the run multiplies by it: copied into slot `q` of the ring, rounded, stored into slot `r` of the rounded
    weights, loaded. -/
abbrev runW (w : FVec F S1024x1024 .f32) (q : Fin 3 → ℕ) (hq : ∀ a, q a + S1x1024x1024.size a ≤ S4x1024x1024.size a)
    (f : (cc0_scratch1 : Ref sig .tc).ty.Contents (Elt F)) (L : List (View.Piece (Elt F) S1024x1024 .f32))
    (r : Fin 3 → ℕ) (hr : ∀ a, r a + S1x1024x1024.size a ≤ S2x1024x1024.size a) (M : List (View.Piece (Elt F) S2x1024x1024 .fp8e4m3)) :
    FVec F S1024x1024 .fp8e4m3 :=
  shapeCast S1024x1024 (eM.view.readCov (⟨Rect.unit (s := S2x1024x1024) r S1x1024x1024.size hr,
      shapeCast S1x1024x1024 (truncf .fp8e4m3 (shapeCast S1024x1024 (tM.view.readAt (Elt F) (Rect.unit (s := S4x1024x1024) q S1x1024x1024.size hq).toLoadRect
        ((slotAt q hq).view.writes (Elt F) f (⟨Rect.whole S1024x1024, w⟩ :: L)) : Vec F S1x1024x1024 .f32) shapeCasts_S1x1024x1024_S1024x1024)
          bitsLt_fp8e4m3_f32 : FVec F S1024x1024 .fp8e4m3) shapeCasts_S1024x1024_S1x1024x1024⟩ :: M)
    (Rect.unit (s := S2x1024x1024) r S1x1024x1024.size hr).toLoadRect : Vec F S1x1024x1024 .fp8e4m3) shapeCasts_S1x1024x1024_S1024x1024

theorem runW_eq (w : FVec F S1024x1024 .f32) (q hq f L r hr M) : runW w q hq f L r hr M = truncf .fp8e4m3 w bitsLt_fp8e4m3_f32 :=
  read_w8 r hr w _ (read_slot q hq f w L) M

/-- A tile of the result as the run computes it — the product with the own rows stored first, loaded again when the three
    others are there — is the tile's expression. -/
theorem tile_run (s : F .f32) (x : Vec F S1024x1024 .fp8e4m3) (g1 g2 g3 : Vec F S1x1024x1024 .fp8e4m3)
    (fw : (main_arg1 : Ref sig .tc).ty.Contents (Elt F)) (c : Dev nD) (n : Fin 8)
    {o0 o1 o2 o3 : Fin 2 → ℕ} {h0 h1 h2 h3}
    (e0 : o0 = ![1024 * ((c.val + 0) % 4), 1024 * n.val]) (e1 : o1 = ![1024 * ((c.val + 1) % 4), 1024 * n.val])
    (e2 : o2 = ![1024 * ((c.val + 2) % 4), 1024 * n.val]) (e3 : o3 = ![1024 * ((c.val + 3) % 4), 1024 * n.val])
    {q0 q1 q2 q3 : Fin 3 → ℕ} {hq0 hq1 hq2 hq3 f0 f1 f2 f3 L0 L1 L2 L3} {r0 r1 r2 r3 : Fin 3 → ℕ} {hr0 hr1 hr2 hr3 M0 M1 M2 M3}
    {p : Fin 2 → ℕ} {hp : ∀ a, p a + S1024x1024.size a ≤ S1024x8192.size a} {L : List (View.Piece (Elt F) S1024x8192 .f32)} :
    mulf (addf (shapeCast S1024x1024 (oM.view.readCov (⟨Rect.unit (s := S1024x8192) p S1024x1024.size hp,
            mm (shapeCast S1024x1024 x shapeCasts_S1024x1024_S1024x1024) (runW ((wAt o0 h0).view.read (Elt F) fw) q0 hq0 f0 L0 r0 hr0 M0)⟩ :: L)
          (Rect.unit (s := S1024x8192) p S1024x1024.size hp).toLoadRect : Vec F S1024x1024 .f32) shapeCasts_S1024x1024_S1024x1024 : FVec F S1024x1024 .f32)
        (addf (addf (mm (shapeCast S1024x1024 g1 shapeCasts_S1x1024x1024_S1024x1024) (runW ((wAt o1 h1).view.read (Elt F) fw) q1 hq1 f1 L1 r1 hr1 M1))
            (mm (shapeCast S1024x1024 g2 shapeCasts_S1x1024x1024_S1024x1024) (runW ((wAt o2 h2).view.read (Elt F) fw) q2 hq2 f2 L2 r2 hr2 M2)))
          (mm (shapeCast S1024x1024 g3 shapeCasts_S1x1024x1024_S1024x1024) (runW ((wAt o3 h3).view.read (Elt F) fw) q3 hq3 f3 L3 r3 hr3 M3))))
      (broadcast S1024x1024 s)
    = tileV s (shapeCast S1024x1024 x shapeCasts_S1024x1024_S1024x1024) (shapeCast S1024x1024 g1 shapeCasts_S1x1024x1024_S1024x1024)
        (shapeCast S1024x1024 g2 shapeCasts_S1x1024x1024_S1024x1024) (shapeCast S1024x1024 g3 shapeCasts_S1x1024x1024_S1024x1024)
        (wTile fw c 0 n) (wTile fw c 1 n) (wTile fw c 2 n) (wTile fw c 3 n) := by
  rw [runW_eq, runW_eq, runW_eq, runW_eq, View.readCov_cons_toLoadRect, shapeCast_self (s := S1024x1024) (mm _ _),
    wTile_of fw c 0 n h0 e0, wTile_of fw c 1 n h1 e1, wTile_of fw c 2 n h2 e2, wTile_of fw c 3 n h3 e3]
  rfl

end Reads

/-- The columns of block `n` of the result staging, once their last write is the tile's expression, are at `outOf`. -/
theorem tile_pts (c : Dev nD) (n : Fin 8) {p : Fin 2 → ℕ} (hp : ∀ a, p a + S1024x1024.size a ≤ S1024x8192.size a) (e : p = ![0, 1024 * n.val])
    (s : F .f32) (x0 x1 x2 x3 : FVec F S1024x1024 .fp8e4m3) (fw : (main_arg1 : Ref sig .tc).ty.Contents (Elt F))
    (fo : (cc0_stg3_0 : Ref sig .tc).ty.Contents (Elt F)) (v : FVec F S1024x1024 .f32) (L : List (View.Piece (Elt F) S1024x8192 .f32))
    (hv : v = tileV s x0 x1 x2 x3 (wTile fw c 0 n) (wTile fw c 1 n) (wTile fw c 2 n) (wTile fw c 3 n)) :
    (oM.view.loc (c : Thread nD τ) ↦[oM.view.setOn (Rect.unit (s := S1024x8192) p S1024x1024.size hp).set]{fullShare}
        oM.view.writes (Elt F) fo (⟨Rect.unit (s := S1024x8192) p S1024x1024.size hp, v⟩ :: L) : sProp 𝕄)
      = oM.view.loc (c : Thread nD τ) ↦[oM.view.setOn (Rect.unit (s := S1024x8192) p S1024x1024.size hp).set]{fullShare} outOf s x0 x1 x2 x3 fw c := by
  subst e
  refine pointsTo_congr fun i hi => ?_
  obtain ⟨y, hy, rfl⟩ := Finset.mem_map.mp hi
  rw [← Rect.map_emb_univ] at hy
  obtain ⟨x, -, rfl⟩ := Finset.mem_map.mp hy
  have hr : ∀ (f : (cc0_stg3_0 : Ref sig .tc).ty.Contents (Elt F)) (y : S1024x8192.Idx), f (oM.view.emb y) = oM.view.read (Elt F) f y := fun _ _ => rfl
  refine (hr _ _).trans (Eq.trans ?_ (hr _ _).symm)
  rw [View.read_writes_cons_emb, hv]
  exact (outOf_emb s x0 x1 x2 x3 fw c n hp x).symm

end Cert.KernelIdeal.Run

end
-- ==== Proof.KernelIdeal.Split.lean ====
/-
# `KernelIdeal`: the buffers of the body in pieces, and whole again

The staged `x` by the rows meant for each device, the gather scratch and the weight ring slot by slot, the rounded weights'
two slots, the result staging by its eight column blocks, the array of weights by one share per cell of the weight ring.
-/
module

public import proofs.«01_k».proof.Proof.KernelIdeal.Tile

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The pieces -/

/-- Device `b`'s rows of the staged `x`. -/
abbrev rowSet (c b : Dev nD) : Finset (Idx (xM.view.loc (c : Thread nD τ))) :=
  xM.view.setOn (Rect.unit (s := S4096x1024) (k0_off9 b) S1024x1024.size (k0_off9_inb b)).set
/-- Slot `s` of the gather scratch. -/
abbrev landSet (c s : Dev nD) : Finset (Idx (gM.view.loc (c : Thread nD τ))) :=
  gM.view.setOn (Rect.unit (s := S4x1024x1024) (k0_off2 s) S1x1024x1024.size (k0_off2_inb s)).set

theorem slotInb (k : Fin 4) : ∀ a, (![k.val, 0, 0] : Fin 3 → ℕ) a + S1x1024x1024.size a ≤ S4x1024x1024.size a := by
  revert k; decide
theorem roundInb (k : Fin 2) : ∀ a, (![k.val, 0, 0] : Fin 3 → ℕ) a + S1x1024x1024.size a ≤ S2x1024x1024.size a := by
  revert k; decide
theorem tileInb (n : Fin 8) : ∀ a, (![0, 1024 * n.val] : Fin 2 → ℕ) a + S1024x1024.size a ≤ S1024x8192.size a := by
  revert n; decide

/-- Slot `k` of the weight ring. -/
abbrev ringSet (c : Dev nD) (k : Fin 4) : Finset (Idx (tM.view.loc (c : Thread nD τ))) := (slotAt ![k.val, 0, 0] (slotInb k)).view.set
/-- Slot `k` of the rounded weights. -/
abbrev roundSet (c : Dev nD) (k : Fin 2) : Finset (Idx (eM.view.loc (c : Thread nD τ))) :=
  eM.view.setOn (Rect.unit (s := S2x1024x1024) ![k.val, 0, 0] S1x1024x1024.size (roundInb k)).set
/-- Column block `n` of the result staging. -/
abbrev tileSet (c : Dev nD) (n : Fin 8) : Finset (Idx (oM.view.loc (c : Thread nD τ))) :=
  oM.view.setOn (Rect.unit (s := S1024x8192) ![0, 1024 * n.val] S1024x1024.size (tileInb n)).set

/-! ## They are disjoint and fill the buffers -/

theorem whole_setOn {b : Ref sig .tc} (S : Finset b.ty.Idx) : (Memref.whole b : Memref sig .tc _ _ _).view.setOn S = S := by
  show S.map _ = S
  exact Finset.map_refl

theorem row_off (b : Fin 4) : k0_off9 b = ![1024 * b.val, 0] := k0_off9_eq b
theorem land_off (b : Fin 4) : k0_off2 b = ![b.val, 0, 0] := k0_off2_eq b

theorem rowSet_eq (c : Dev nD) (b : Dev nD) : rowSet c b = (Rect.unit (s := S4096x1024) (k0_off9 b) S1024x1024.size (k0_off9_inb b)).set := whole_setOn (b := cc0_stg0_0) _
theorem rows_disjoint (c : Dev nD) (b b' : Dev nD) (h : b ≠ b') : Disjoint (rowSet c b) (rowSet c b') := by
  have hd := Ring.lead_disjoint (s := S4096x1024) (NB := 4) 0 1024 (fun b => k0_off9 b) S1024x1024.size (fun b => k0_off9_inb b)
    (fun b => by rw [row_off]; rfl) rfl b b' h
  rw [rowSet_eq, rowSet_eq, Finset.disjoint_left]
  exact Finset.disjoint_left.mp hd
theorem rows_cover (c : Dev nD) : Finset.univ.biUnion (rowSet c) = Finset.univ := by
  rw [show rowSet c = fun b : Fin 4 => (Rect.unit (s := S4096x1024) (k0_off9 b) S1024x1024.size (k0_off9_inb b)).set from funext (rowSet_eq c)]
  exact Ring.lead_cover (s := S4096x1024) (NB := 4) 0 1024 (fun b => k0_off9 b) S1024x1024.size (fun b => k0_off9_inb b)
    (fun b => by rw [row_off]; rfl) (fun b a ha => by rw [row_off]; fin_cases a <;> first | rfl | exact absurd rfl ha) rfl
    (fun a ha => by fin_cases a <;> first | rfl | exact absurd rfl ha) rfl

theorem landSet_eq (c : Dev nD) (b : Dev nD) : landSet c b = (Rect.unit (s := S4x1024x1024) (k0_off2 b) S1x1024x1024.size (k0_off2_inb b)).set := whole_setOn (b := cc0_scratch0) _
theorem lands_disjoint (c : Dev nD) (b b' : Dev nD) (h : b ≠ b') : Disjoint (landSet c b) (landSet c b') := by
  have hd := Ring.lead_disjoint (s := S4x1024x1024) (NB := 4) 0 1 (fun b => k0_off2 b) S1x1024x1024.size (fun b => k0_off2_inb b)
    (fun b => by rw [land_off, Nat.one_mul]; rfl) rfl b b' h
  rw [landSet_eq, landSet_eq, Finset.disjoint_left]
  exact Finset.disjoint_left.mp hd
theorem lands_cover (c : Dev nD) : Finset.univ.biUnion (landSet c) = Finset.univ := by
  rw [show landSet c = fun b : Fin 4 => (Rect.unit (s := S4x1024x1024) (k0_off2 b) S1x1024x1024.size (k0_off2_inb b)).set from funext (landSet_eq c)]
  exact Ring.lead_cover (s := S4x1024x1024) (NB := 4) 0 1 (fun b => k0_off2 b) S1x1024x1024.size (fun b => k0_off2_inb b)
    (fun b => by rw [land_off, Nat.one_mul]; rfl) (fun b a ha => by rw [land_off]; fin_cases a <;> first | rfl | exact absurd rfl ha) rfl
    (fun a ha => by fin_cases a <;> first | rfl | exact absurd rfl ha) rfl

theorem ringSet_eq (c : Dev nD) (k : Fin 4) : ringSet c k = (Rect.unit (s := S4x1024x1024) ![k.val, 0, 0] S1x1024x1024.size (slotInb k)).set :=
  ((Memref.set_view_squeeze _ squeezes_S1x1024x1024_S1024x1024).trans (View.set_slice _ _)).trans (whole_setOn (b := cc0_scratch1) _)
theorem ring_disjoint (c : Dev nD) (b b' : Fin 4) (h : b ≠ b') : Disjoint (ringSet c b) (ringSet c b') := by
  rw [ringSet_eq, ringSet_eq]
  exact Ring.lead_disjoint (s := S4x1024x1024) (NB := 4) 0 1 (fun k => ![k.val, 0, 0]) S1x1024x1024.size slotInb
    (fun b => by rw [Nat.one_mul]; rfl) rfl b b' h
theorem ring_cover (c : Dev nD) : Finset.univ.biUnion (ringSet c) = Finset.univ := by
  rw [show ringSet c = fun k => (Rect.unit (s := S4x1024x1024) ![k.val, 0, 0] S1x1024x1024.size (slotInb k)).set from funext (ringSet_eq c)]
  exact Ring.lead_cover (s := S4x1024x1024) (NB := 4) 0 1 (fun k => ![k.val, 0, 0]) S1x1024x1024.size slotInb
    (fun b => by rw [Nat.one_mul]; rfl) (fun b a ha => by fin_cases a <;> first | rfl | exact absurd rfl ha) rfl
    (fun a ha => by fin_cases a <;> first | rfl | exact absurd rfl ha) rfl

theorem roundSet_eq (c : Dev nD) (b : Fin 2) : roundSet c b = (Rect.unit (s := S2x1024x1024) ![b.val, 0, 0] S1x1024x1024.size (roundInb b)).set := whole_setOn (b := cc0_scratch2) _
theorem round_disjoint (c : Dev nD) (b b' : Fin 2) (h : b ≠ b') : Disjoint (roundSet c b) (roundSet c b') := by
  have hd := Ring.lead_disjoint (s := S2x1024x1024) (NB := 2) 0 1 (fun k => ![k.val, 0, 0]) S1x1024x1024.size roundInb
    (fun b => by rw [Nat.one_mul]; rfl) rfl b b' h
  rw [roundSet_eq, roundSet_eq, Finset.disjoint_left]
  exact Finset.disjoint_left.mp hd
theorem round_cover (c : Dev nD) : Finset.univ.biUnion (roundSet c) = Finset.univ := by
  rw [show roundSet c = fun b : Fin 2 => (Rect.unit (s := S2x1024x1024) ![b.val, 0, 0] S1x1024x1024.size (roundInb b)).set from funext (roundSet_eq c)]
  exact Ring.lead_cover (s := S2x1024x1024) (NB := 2) 0 1 (fun k => ![k.val, 0, 0]) S1x1024x1024.size roundInb
    (fun b => by rw [Nat.one_mul]; rfl) (fun b a ha => by fin_cases a <;> first | rfl | exact absurd rfl ha) rfl
    (fun a ha => by fin_cases a <;> first | rfl | exact absurd rfl ha) rfl

theorem tileSet_eq (c : Dev nD) (b : Fin 8) : tileSet c b = (Rect.unit (s := S1024x8192) ![0, 1024 * b.val] S1024x1024.size (tileInb b)).set := whole_setOn (b := cc0_stg3_0) _
theorem tiles_disjoint (c : Dev nD) (b b' : Fin 8) (h : b ≠ b') : Disjoint (tileSet c b) (tileSet c b') := by
  have hd := Ring.lead_disjoint (s := S1024x8192) (NB := 8) 1 1024 (fun n => ![0, 1024 * n.val]) S1024x1024.size tileInb
    (fun b => rfl) rfl b b' h
  rw [tileSet_eq, tileSet_eq, Finset.disjoint_left]
  exact Finset.disjoint_left.mp hd
theorem tiles_cover (c : Dev nD) : Finset.univ.biUnion (tileSet c) = Finset.univ := by
  rw [show tileSet c = fun b : Fin 8 => (Rect.unit (s := S1024x8192) ![0, 1024 * b.val] S1024x1024.size (tileInb b)).set from funext (tileSet_eq c)]
  exact Ring.lead_cover (s := S1024x8192) (NB := 8) 1 1024 (fun n => ![0, 1024 * n.val]) S1024x1024.size tileInb
    (fun b => rfl) (fun b a ha => by fin_cases a <;> first | rfl | exact absurd rfl ha) rfl
    (fun a ha => by fin_cases a <;> first | rfl | exact absurd rfl ha) rfl

/-! ## The buffers piece by piece -/

theorem x_rows (c : Dev nD) (f : (cc0_stg0_0 : Ref sig .tc).ty.Contents (Elt F)) :
    (xM.view.loc (c : Thread nD τ) ↦{fullShare} f : sProp 𝕄)
      = iprop((xM.view.loc (c : Thread nD τ) ↦[rowSet c c]{fullShare} f) ∗ (xM.view.loc (c : Thread nD τ) ↦[rowSet c (rot 1 c)]{fullShare} f)
        ∗ (xM.view.loc (c : Thread nD τ) ↦[rowSet c (rot 2 c)]{fullShare} f) ∗ (xM.view.loc (c : Thread nD τ) ↦[rowSet c (rot 3 c)]{fullShare} f)) := by
  rw [Ring.pointsTo_blocks (rowSet c) (rows_disjoint c) (rows_cover c) f, bigSep_univ_eq_bigSepL (around c) (around_all c) (around_nodup c)]; rfl

/-- A gather scratch, slot by slot; -/
theorem land_slots (c : Dev nD) (f : (cc0_scratch0 : Ref sig .tc).ty.Contents (Elt F)) :
    (gM.view.loc (c : Thread nD τ) ↦{fullShare} f : sProp 𝕄)
      = iprop((gM.view.loc (c : Thread nD τ) ↦[landSet c c]{fullShare} f) ∗ (gM.view.loc (c : Thread nD τ) ↦[landSet c (rot 1 c)]{fullShare} f)
        ∗ (gM.view.loc (c : Thread nD τ) ↦[landSet c (rot 2 c)]{fullShare} f) ∗ (gM.view.loc (c : Thread nD τ) ↦[landSet c (rot 3 c)]{fullShare} f)) := by
  rw [Ring.pointsTo_blocks (landSet c) (lands_disjoint c) (lands_cover c) f, bigSep_univ_eq_bigSepL (around c) (around_all c) (around_nodup c)]; rfl
/-- and whole again, whatever its slots hold. -/
theorem land_join (c : Dev nD) (f₀ : (cc0_scratch0 : Ref sig .tc).ty.Contents (Elt F)) :
    iprop((∃ f, gM.view.loc (c : Thread nD τ) ↦[landSet c c]{fullShare} f) ∗ (∃ f, gM.view.loc (c : Thread nD τ) ↦[landSet c (rot 1 c)]{fullShare} f)
        ∗ (∃ f, gM.view.loc (c : Thread nD τ) ↦[landSet c (rot 2 c)]{fullShare} f) ∗ (∃ f, gM.view.loc (c : Thread nD τ) ↦[landSet c (rot 3 c)]{fullShare} f))
      ⊢ (iprop(∃ f : Buf (Elt F) (gM.view.loc (c : Thread nD τ)), gM.view.loc (c : Thread nD τ) ↦{fullShare} f) : sProp 𝕄) := by
  refine Entails.trans (Entails.of_eq ?_) (Ring.pointsTo_blocks_join_exists (landSet c) (lands_disjoint c) (lands_cover c) f₀)
  rw [bigSep_univ_eq_bigSepL (around c) (around_all c) (around_nodup c)]; rfl

theorem ring_slots (c : Dev nD) (f : (cc0_scratch1 : Ref sig .tc).ty.Contents (Elt F)) :
    (tM.view.loc (c : Thread nD τ) ↦{fullShare} f : sProp 𝕄)
      = iprop((tM.view.loc (c : Thread nD τ) ↦[ringSet c 0]{fullShare} f) ∗ (tM.view.loc (c : Thread nD τ) ↦[ringSet c 1]{fullShare} f)
        ∗ (tM.view.loc (c : Thread nD τ) ↦[ringSet c 2]{fullShare} f) ∗ (tM.view.loc (c : Thread nD τ) ↦[ringSet c 3]{fullShare} f)) := by
  rw [Ring.pointsTo_blocks (ringSet c) (ring_disjoint c) (ring_cover c) f, bigSep_univ_eq_bigSepL [0, 1, 2, 3] (by decide) (by decide)]; rfl
theorem ring_join (c : Dev nD) (f₀ : (cc0_scratch1 : Ref sig .tc).ty.Contents (Elt F)) :
    iprop((∃ f, tM.view.loc (c : Thread nD τ) ↦[ringSet c 0]{fullShare} f) ∗ (∃ f, tM.view.loc (c : Thread nD τ) ↦[ringSet c 1]{fullShare} f)
        ∗ (∃ f, tM.view.loc (c : Thread nD τ) ↦[ringSet c 2]{fullShare} f) ∗ (∃ f, tM.view.loc (c : Thread nD τ) ↦[ringSet c 3]{fullShare} f))
      ⊢ (iprop(∃ f : Buf (Elt F) (tM.view.loc (c : Thread nD τ)), tM.view.loc (c : Thread nD τ) ↦{fullShare} f) : sProp 𝕄) := by
  refine Entails.trans (Entails.of_eq ?_) (Ring.pointsTo_blocks_join_exists (ringSet c) (ring_disjoint c) (ring_cover c) f₀)
  rw [bigSep_univ_eq_bigSepL [0, 1, 2, 3] (by decide) (by decide)]; rfl

theorem round_slots (c : Dev nD) (f : (cc0_scratch2 : Ref sig .tc).ty.Contents (Elt F)) :
    (eM.view.loc (c : Thread nD τ) ↦{fullShare} f : sProp 𝕄)
      = iprop((eM.view.loc (c : Thread nD τ) ↦[roundSet c 0]{fullShare} f) ∗ (eM.view.loc (c : Thread nD τ) ↦[roundSet c 1]{fullShare} f)) := by
  rw [Ring.pointsTo_blocks (roundSet c) (round_disjoint c) (round_cover c) f, bigSep_univ_eq_bigSepL [0, 1] (by decide) (by decide)]; rfl
theorem round_join (c : Dev nD) (f₀ : (cc0_scratch2 : Ref sig .tc).ty.Contents (Elt F)) :
    iprop((∃ f, eM.view.loc (c : Thread nD τ) ↦[roundSet c 0]{fullShare} f) ∗ (∃ f, eM.view.loc (c : Thread nD τ) ↦[roundSet c 1]{fullShare} f))
      ⊢ (iprop(∃ f : Buf (Elt F) (eM.view.loc (c : Thread nD τ)), eM.view.loc (c : Thread nD τ) ↦{fullShare} f) : sProp 𝕄) := by
  refine Entails.trans (Entails.of_eq ?_) (Ring.pointsTo_blocks_join_exists (roundSet c) (round_disjoint c) (round_cover c) f₀)
  rw [bigSep_univ_eq_bigSepL [0, 1] (by decide) (by decide)]; rfl

theorem out_tiles (c : Dev nD) (f : (cc0_stg3_0 : Ref sig .tc).ty.Contents (Elt F)) :
    (oM.view.loc (c : Thread nD τ) ↦{fullShare} f : sProp 𝕄)
      = iprop((oM.view.loc (c : Thread nD τ) ↦[tileSet c 0]{fullShare} f) ∗ (oM.view.loc (c : Thread nD τ) ↦[tileSet c 1]{fullShare} f)
        ∗ (oM.view.loc (c : Thread nD τ) ↦[tileSet c 2]{fullShare} f) ∗ (oM.view.loc (c : Thread nD τ) ↦[tileSet c 3]{fullShare} f)
        ∗ (oM.view.loc (c : Thread nD τ) ↦[tileSet c 4]{fullShare} f) ∗ (oM.view.loc (c : Thread nD τ) ↦[tileSet c 5]{fullShare} f)
        ∗ (oM.view.loc (c : Thread nD τ) ↦[tileSet c 6]{fullShare} f) ∗ (oM.view.loc (c : Thread nD τ) ↦[tileSet c 7]{fullShare} f)) := by
  rw [Ring.pointsTo_blocks (tileSet c) (tiles_disjoint c) (tiles_cover c) f,
    bigSep_univ_eq_bigSepL [0, 1, 2, 3, 4, 5, 6, 7] (by decide) (by decide)]; rfl

/-- What is left of the array of weights beside the four shares the weight ring lends to its copies. -/
def wRest (c : Dev nD) (f : (main_arg1 : Ref sig .tc).ty.Contents (Elt F)) : sProp 𝕄 :=
  iprop((wM.view.loc (c : Thread nD τ) ↦{Transfers.shareDrop fullShare 15} f)
    ∗ bigSep (Finset.range 11) (fun i => wM.view.loc (c : Thread nD τ) ↦{Transfers.shareTokN fullShare i} f))
theorem w_shares (c : Dev nD) (f : (main_arg1 : Ref sig .tc).ty.Contents (Elt F)) :
    (wM.view.loc (c : Thread nD τ) ↦{fullShare} f : sProp 𝕄)
      ⊣⊢ iprop(wRest c f ∗ (wM.view.loc (c : Thread nD τ) ↦{Transfers.shareTokN fullShare 11} f) ∗ (wM.view.loc (c : Thread nD τ) ↦{Transfers.shareTokN fullShare 12} f)
        ∗ (wM.view.loc (c : Thread nD τ) ↦{Transfers.shareTokN fullShare 13} f) ∗ (wM.view.loc (c : Thread nD τ) ↦{Transfers.shareTokN fullShare 14} f)) := by
  have h := Transfers.pointsTo_toks_range (ℓ := wM.view.loc (c : Thread nD τ)) (S := Finset.univ) (f := f) (Ix := Unit) (Name := ℕ) (U := UU) (Lvl := ℕ) fullShare 15
  have e : (bigSep (Finset.range 15) (fun i => wM.view.loc (c : Thread nD τ) ↦{Transfers.shareTokN fullShare i} f) : sProp 𝕄)
      = iprop((wM.view.loc (c : Thread nD τ) ↦{Transfers.shareTokN fullShare 14} f) ∗ (wM.view.loc (c : Thread nD τ) ↦{Transfers.shareTokN fullShare 13} f)
        ∗ (wM.view.loc (c : Thread nD τ) ↦{Transfers.shareTokN fullShare 12} f) ∗ (wM.view.loc (c : Thread nD τ) ↦{Transfers.shareTokN fullShare 11} f)
        ∗ bigSep (Finset.range 11) (fun i => wM.view.loc (c : Thread nD τ) ↦{Transfers.shareTokN fullShare i} f)) := by
    simp only [Finset.range_add_one (n := 14), Finset.range_add_one (n := 13), Finset.range_add_one (n := 12), Finset.range_add_one (n := 11)]
    rw [bigSep_insert (by decide), bigSep_insert (by decide), bigSep_insert (by decide), bigSep_insert (by decide)]; rfl
  rw [e] at h
  unfold wRest
  constructor
  · iintro H
    ihave H' := h.1 $$ H
    icases H' with ⟨HD, H4, H3, H2, H1, HR⟩
    isplitl [HD HR]
    · isplitl [HD]; · iexact HD
      iexact HR
    isplitl [H1]; · iexact H1
    isplitl [H2]; · iexact H2
    isplitl [H3]; · iexact H3
    iexact H4
  · iintro ⟨⟨HD, HR⟩, H1, H2, H3, H4⟩
    iapply h.2
    isplitl [HD]; · iexact HD
    isplitl [H4]; · iexact H4
    isplitl [H3]; · iexact H3
    isplitl [H2]; · iexact H2
    isplitl [H1]; · iexact H1
    iexact HR

end Cert.KernelIdeal.Run

end
-- ==== Proof.KernelIdeal.Tail.lean ====
/-
# `KernelIdeal`: the body from the weight pipeline on

The body of the kernel after its handshake and its three sends, run symbolically on any device `c`: 32 weight tiles through
the ring of four slots, eight products with the own rows, the three waits for the peers' rows, 24 products with them, the eight
stores of the result. The last three waits, for the sends, give the rows sent back.
-/
module

public import proofs.«01_k».proof.Proof.KernelIdeal.Tile

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- The body after its second part. -/
def tail (c : Dev nD) (v2 : BitVec 32) (v54 : F .f32) : Prog (TpuEff nD τ sig (Elt F) Λ₀ .tc) PUnit := do
  let c0_i32_70 : BitVec 32 ← k0_part3 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2
  let v112 : FVec F S1024x1024 .fp8e4m3 ← k0_part4 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 c0_i32_70
  k0_part5 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v112
  k0_part6 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v112
  k0_part7 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v112
  k0_part8 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v112
  k0_part9 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v112
  k0_part10 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v112
  let v304 : FVec F S1024x1024 .f32 ← k0_part11 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v112
  let ⟨v331, c1024_i32_314⟩ : Σ' (v331 : BitVec 32), BitVec 32 ← k0_part12 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v112 v304
  let ⟨v359, v360⟩ : Σ' (v359 : FVec F S1024x1024 .f32), BitVec 32 ← k0_part13 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v331 c1024_i32_314
  k0_part14 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v360
  let ⟨v398, v416⟩ : Σ' (v398 : FVec F S1024x1024 .f32), Vec F S1x1024x1024 .f32 ← k0_part15 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2
  let ⟨v447, c1024_i32_426⟩ : Σ' (v447 : BitVec 32), BitVec 32 ← k0_part16 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v54 v359 v398 v416
  let ⟨v475, v476⟩ : Σ' (v475 : FVec F S1024x1024 .f32), BitVec 32 ← k0_part17 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v447 c1024_i32_426
  let ⟨v502, v504, cst_483⟩ : Σ' (v502 : FVec F S1024x1024 .fp8e4m3) (v504 : FVec F S1024x1024 .fp8e4m3), FVec F S1024x1024 .f32 ← k0_part18 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v476
  let ⟨v505, v532⟩ : Σ' (v505 : FVec F S1024x1024 .f32), FVec F S1024x1024 .fp8e4m3 ← k0_part19 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v502 v504 cst_483
  k0_part20 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v54 v475 v505 v532
  let v573 : FVec F S1024x1024 .f32 ← k0_part21 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2
  let v603 : FVec F S1024x1024 .f32 ← k0_part22 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2
  let v650 : Vec F S1x1024x1024 .f32 ← k0_part23 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v54 v573 v603
  let v671 : FVec F S1024x1024 .f32 ← k0_part24 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v650
  let v701 : FVec F S1024x1024 .f32 ← k0_part25 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2
  let v738 : FVec F S1024x1024 .f32 ← k0_part26 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v54 v671 v701
  let v766 : FVec F S1024x1024 .fp8e4m3 ← k0_part27 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v738
  let ⟨v769, v796⟩ : Σ' (v769 : FVec F S1024x1024 .f32), FVec F S1024x1024 .fp8e4m3 ← k0_part28 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v766
  let v799 : FVec F S1024x1024 .f32 ← k0_part29 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v796
  k0_part30 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v54 v769 v799
  let ⟨v867, v883⟩ : Σ' (v867 : FVec F S1024x1024 .f32), BitVec 32 ← k0_part31 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2
  let ⟨v897, c2_i32_874⟩ : Σ' (v897 : FVec F S1024x1024 .f32), BitVec 32 ← k0_part32 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v883
  k0_part33 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v54 v867 v897 c2_i32_874
  let v965 : FVec F S1024x1024 .f32 ← k0_part34 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2
  let ⟨v987, v998⟩ : Σ' (v987 : FVec F S1024x1024 .f32), FVec F S1024x1024 .fp8e4m3 ← k0_part35 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2
  let ⟨v1028, v1029⟩ : Σ' (v1028 : FVec F S1024x1024 .fp8e4m3), Vec F S1x1024x1024 .fp8e4m3 ← k0_part36 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v54 v965 v987 v998
  let ⟨v1039, v1058⟩ : Σ' (v1039 : FVec F S1024x1024 .f32), FVec F S1024x1024 .fp8e4m3 ← k0_part37 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v1028 v1029
  k0_part38 xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5 c v2 v54 v1039 v1058
  let v1090 : Memref sig .tc .vmem S1024x1024 .fp8e4m3 := xM.slice (Rect.unit (s := S4096x1024) (k0_off3 c 3#32) S1024x1024.size (k0_off3_inb c 2)) (fun _ => rfl)
  let v1091 : Memref sig .tc .vmem S1x1024x1024 .fp8e4m3 := gM.slice (Rect.unit (s := S4x1024x1024) (k0_off2 c) S1x1024x1024.size (k0_off2_inb c)) (fun _ => rfl)
  let v1092 : Memref sig .tc .vmem S1024x1024 .fp8e4m3 := v1091.squeeze S1024x1024 squeezes_S1x1024x1024_S1024x1024
  let v1088 : DmaSems sig S1 := cc0_scratch3.slice (Rect.unit (s := S3) ![2] S1.size inb_S3_S1_2)
  let v1089 : DmaSems sig S_ := v1088.squeeze S_ squeezes_S1_S_
  Prog.lift (.waitDma2 v1089.sem v1092 v1090 (((Memref.isWhole_whole _).wordExact_slice rfl _ (k0_off2_wordsfp8e4m3 c)).reshape _ _) ((Memref.isWhole_whole _).wordExact_slice rfl _ (k0_off3_wordsfp8e4m3 c 2)))
  pure ⟨⟩

/-! ## The receive cells, spelled as the body spells them -/

abbrev recvW (c : Dev nD) (o : Fin 1 → ℕ) (h : ∀ a, o a + S1.size a ≤ S4.size a) : DmaSem sig :=
  ((cc0_scratch4.slice (Rect.unit (s := S4) o S1.size h)).squeeze S_ squeezes_S1_S_).sem
abbrev rcvCell (c : Dev nD) (k : Fin 3) : GSem nD τ sig :=
  ((c : Thread nD τ), .dma (recvW c (k0_off13 c (BitVec.ofNat 32 (1 + k.val))) (k0_off13_inb c k)))
abbrev gslot (c : Dev nD) (k : Fin 3) : Finset (gM.view.ref.ty.Idx) :=
  gM.view.setOn (Rect.unit (s := S4x1024x1024) (k0_off15 c (BitVec.ofNat 32 (1 + k.val))) S1x1024x1024.size (k0_off15_inb c k)).set

theorem rcvCell_eq (c : Dev nD) (k : Fin 3) : rcvCell c k = recvCell c (rot (k.val + 1) c) := by revert c k; decide
theorem N_eq : N = 32768 := by decide

theorem landM_set (s : Dev nD) : (landM s).view.set = gM.view.setOn (Rect.unit (s := S4x1024x1024) (k0_off2 s) S1x1024x1024.size (k0_off2_inb s)).set :=
  (Memref.set_view_squeeze _ squeezes_S1x1024x1024_S1024x1024).trans (View.set_slice _ _)
theorem gslot_off (c : Dev nD) (k : Fin 3) : k0_off2 (rot (k.val + 1) c) = k0_off15 c (BitVec.ofNat 32 (1 + k.val)) := by
  rw [k0_off2_eq, k0_off15_eq]; rfl
theorem gslot_eq (c : Dev nD) (k : Fin 3) : (landM (rot (k.val + 1) c)).view.set = gslot c k := by
  rw [landM_set]; unfold gslot
  have h : ∀ {o o' : Fin 3 → ℕ} (p : ∀ a, o a + S1x1024x1024.size a ≤ S4x1024x1024.size a) (p' : ∀ a, o' a + S1x1024x1024.size a ≤ S4x1024x1024.size a),
      o = o' → gM.view.setOn (Rect.unit (s := S4x1024x1024) o S1x1024x1024.size p).set = gM.view.setOn (Rect.unit (s := S4x1024x1024) o' S1x1024x1024.size p').set := by
    intro o o' p p' e; subst e; rfl
  exact h _ _ (gslot_off c k)

theorem landPts_eq (c : Dev nD) (k : Fin 3) (f) :
    (landPts c (rot (k.val + 1) c) f : sProp 𝕄) = (gM.view.loc (c : Thread nD τ) ↦[gslot c k]{fullShare} f) := by
  unfold landPts; rw [gslot_eq]

theorem expect_rcv (c : Dev nD) (k : Fin 3) : (rd (F := F) m ρ).expect (rcvCell c k) 0 = 32768 := by
  rw [rcvCell_eq, expect_recv, N_eq]
theorem duties_rcv (c : Dev nD) (k : Fin 3) : (rd (F := F) m ρ).duties (rcvCell c k) 0 = {0} := by
  rw [rcvCell_eq, duties_recv]
theorem payload_rcv (c : Dev nD) (k : Fin 3) (d : Fin 4) : (rd (F := F) m ρ).payload (rcvCell c k) 0 d
    = (gM.view.loc (c : Thread nD τ) ↦[gslot c k]{fullShare} gath m ρ c) := by
  rw [rcvCell_eq, payload_recv, landPts_eq]
theorem payload_rcv0 (c : Dev nD) (d : Fin 4) : (rd (F := F) m ρ).payload (rcvCell c 0) 0 d
    = (gM.view.loc (c : Thread nD τ) ↦[gM.view.setOn (Rect.unit (s := S4x1024x1024) (k0_off15 c 1#32) S1x1024x1024.size (k0_off15_inb c 0)).set]{fullShare} gath m ρ c) :=
  payload_rcv m ρ c 0 d
theorem payload_rcv1 (c : Dev nD) (d : Fin 4) : (rd (F := F) m ρ).payload (rcvCell c 1) 0 d
    = (gM.view.loc (c : Thread nD τ) ↦[gM.view.setOn (Rect.unit (s := S4x1024x1024) (k0_off15 c 2#32) S1x1024x1024.size (k0_off15_inb c 1)).set]{fullShare} gath m ρ c) :=
  payload_rcv m ρ c 1 d
theorem payload_rcv2 (c : Dev nD) (d : Fin 4) : (rd (F := F) m ρ).payload (rcvCell c 2) 0 d
    = (gM.view.loc (c : Thread nD τ) ↦[gM.view.setOn (Rect.unit (s := S4x1024x1024) (k0_off15 c 3#32) S1x1024x1024.size (k0_off15_inb c 2)).set]{fullShare} gath m ρ c) :=
  payload_rcv m ρ c 2 d

attribute [local sl_rounds] expect_rcv duties_rcv payload_rcv0 payload_rcv1 payload_rcv2

/-! ## The tiles of `x` met -/

/-- The own rows, and the rows received, as the products meet them. -/
def xTile (c : Dev nD) (fx : (cc0_stg0_0 : Ref sig .tc).ty.Contents (Elt F)) : FVec F S1024x1024 .fp8e4m3 :=
  shapeCast S1024x1024 (xM.view.readAt (Elt F) (Rect.unit (s := S4096x1024) (k0_off9 c) S1024x1024.size (k0_off9_inb c)).toLoadRect fx : Vec F S1024x1024 .fp8e4m3)
    shapeCasts_S1024x1024_S1024x1024
def gTile (c : Dev nD) (k : Fin 3) : FVec F S1024x1024 .fp8e4m3 :=
  shapeCast S1024x1024 (gM.view.readAt (Elt F) (Rect.unit (s := S4x1024x1024) (k0_off15 c (BitVec.ofNat 32 (1 + k.val))) S1x1024x1024.size (k0_off15_inb c k)).toLoadRect
    (gath m ρ c) : Vec F S1x1024x1024 .fp8e4m3) shapeCasts_S1x1024x1024_S1024x1024

/-! ## The run -/

/-- The send cells' records, credits and positions, and what the last three waits give for them. -/
def sendPre (c : Dev nD) (κ : Fin 3 → ℕ) : sProp 𝕄 :=
  iprop(cellInv ER (rd m ρ) (κ 0) (sendCell c 0) ∗ cellInv ER (rd m ρ) (κ 1) (sendCell c 1) ∗ cellInv ER (rd m ρ) (κ 2) (sendCell c 2)
    ∗ (cred (tallyAt (sendCell c 0) () N) ∗ cred (tallyAt (sendCell c 1) () N) ∗ cred (tallyAt (sendCell c 2) () N))
    ∗ atPos ER (sendCell c 0) 0 ∅ 0 ∗ atPos ER (sendCell c 1) 0 ∅ 0 ∗ atPos ER (sendCell c 2) 0 ∅ 0)
def sendPost (c : Dev nD) : sProp 𝕄 :=
  iprop((atPos ER (sendCell c 0) 1 ∅ 0 ∗ atPos ER (sendCell c 1) 1 ∅ 0 ∗ atPos ER (sendCell c 2) 1 ∅ 0)
    ∗ rowPts m ρ c (rot 1 c) ∗ rowPts m ρ c (rot 2 c) ∗ rowPts m ρ c (rot 3 c))

/-- One wait for a send. -/
theorem wp_wait_send (c : Dev nD) (k : Fin 3) (κ : ℕ) (W : Waits sig Unit) {q : DmaSem sig} (hq : q = sendS k)
    {sA : Shape} {eA : EltTy} {spA : Space} {A : Memref sig .tc spA sA eA} {B : Memref sig .tc .vmem S1024x1024 .fp8e4m3}
    {hA : A.view.WordExact} {hB : B.view.WordExact}
    {α : Type} {Q : α → sProp 𝕄} {K : PUnit → Prog (TpuEff nD τ sig (Elt F) Λ₀ .tc) α} :
    iprop(cellInv ER (rd m ρ) κ (sendCell c k) ∗ cred (tallyAt (sendCell c k) () N) ∗ owes (c : Thread nD τ) 0 W ∗ atPos ER (sendCell c k) 0 ∅ 0)
      ⊢ iprop(((∃ W, owes (c : Thread nD τ) 0 W) ∗ atPos ER (sendCell c k) 1 ∅ 0 ∗ rowPts m ρ c (rot (k.val + 1) c)
            -∗ wp frame (wpE (defs₀ (F := F)) Variants.none (c : Thread nD τ) none) Set.univ (K ⟨⟩) Q)
          -∗ wp frame (wpE (defs₀ (F := F)) Variants.none (c : Thread nD τ) none) Set.univ (.op (.waitDma2 q A B hA hB) K) Q) := by
  subst hq
  have hN : B.view.dmaCredit = N := rfl
  iintro ⟨#HI, HC, HO, HA⟩ HK
  iapply (Rounds.wp_wait_rest_token Variants.none ER (rd m ρ) (c : Thread nD τ) none (κ := κ)
      (wpE_waitDma2_eq Variants.none (c : Thread nD τ) none Set.univ) (Set.mem_univ _) () (O := 0) (W := W) (R := 0) (m := 0) (T := ∅)
      (by rw [Nat.zero_add, expect_send, hN])) $$ [HC HO HA]
  · isplitr; · iexact HI
    isplitl [HC]; · rw [hN]; iexact HC
    isplitl [HO]; · iexact HO
    isplitr; · rw [MayWait_zero]; iempintro
    iexact HA
  iintro ⟨HO, HA, -, Hpay⟩
  ihave Hx := (Entails.of_eq (rest_send m ρ c k)) $$ Hpay
  iapply HK
  isplitl [HO]; · iexists _; iexact HO
  isplitl [HA]; · iexact HA
  iexact Hx

/-- What the tail is entered with. -/
def tailPre (c : Dev nD) (κ : Fin 3 → ℕ) (κs : Fin 3 → ℕ) (fw : (main_arg1 : Ref sig .tc).ty.Contents (Elt F)) (t0 t1 t2 t3 : (cc0_scratch1 : Ref sig .tc).ty.Contents (Elt F))
    (fx : (cc0_stg0_0 : Ref sig .tc).ty.Contents (Elt F)) (fo : (cc0_stg3_0 : Ref sig .tc).ty.Contents (Elt F))
    (e0 e1 : (cc0_scratch2 : Ref sig .tc).ty.Contents (Elt F)) (W : Waits sig Unit) : sProp 𝕄 :=
  iprop((wM.view.loc (c : Thread nD τ) ↦{Transfers.shareTokN fullShare 11} fw)
      ∗ (wM.view.loc (c : Thread nD τ) ↦{Transfers.shareTokN fullShare 12} fw)
      ∗ (wM.view.loc (c : Thread nD τ) ↦{Transfers.shareTokN fullShare 13} fw)
      ∗ (wM.view.loc (c : Thread nD τ) ↦{Transfers.shareTokN fullShare 14} fw)
      ∗ ((slotAt ![0, 0, 0] inb_S4x1024x1024_S1x1024x1024_0_0_0).view.loc (c : Thread nD τ) ↦[(slotAt ![0, 0, 0] inb_S4x1024x1024_S1x1024x1024_0_0_0).view.set]{fullShare} t0)
      ∗ ((slotAt ![1, 0, 0] inb_S4x1024x1024_S1x1024x1024_1_0_0).view.loc (c : Thread nD τ) ↦[(slotAt ![1, 0, 0] inb_S4x1024x1024_S1x1024x1024_1_0_0).view.set]{fullShare} t1)
      ∗ ((slotAt ![2, 0, 0] inb_S4x1024x1024_S1x1024x1024_2_0_0).view.loc (c : Thread nD τ) ↦[(slotAt ![2, 0, 0] inb_S4x1024x1024_S1x1024x1024_2_0_0).view.set]{fullShare} t2)
      ∗ ((slotAt ![3, 0, 0] inb_S4x1024x1024_S1x1024x1024_3_0_0).view.loc (c : Thread nD τ) ↦[(slotAt ![3, 0, 0] inb_S4x1024x1024_S1x1024x1024_3_0_0).view.set]{fullShare} t3)
      ∗ (xM.view.loc (c : Thread nD τ) ↦[xM.view.setOn (Rect.unit (s := S4096x1024) (k0_off9 c) S1024x1024.size (k0_off9_inb c)).set]{fullShare} fx)
      ∗ (oM.view.loc (c : Thread nD τ) ↦[oM.view.setOn (Rect.unit (s := S1024x8192) ![0, 0] S1024x1024.size inb_S1024x8192_S1024x1024_0_0).set]{fullShare} fo)
      ∗ (oM.view.loc (c : Thread nD τ) ↦[oM.view.setOn (Rect.unit (s := S1024x8192) ![0, 1024] S1024x1024.size inb_S1024x8192_S1024x1024_0_1024).set]{fullShare} fo)
      ∗ (oM.view.loc (c : Thread nD τ) ↦[oM.view.setOn (Rect.unit (s := S1024x8192) ![0, 2048] S1024x1024.size inb_S1024x8192_S1024x1024_0_2048).set]{fullShare} fo)
      ∗ (oM.view.loc (c : Thread nD τ) ↦[oM.view.setOn (Rect.unit (s := S1024x8192) ![0, 3072] S1024x1024.size inb_S1024x8192_S1024x1024_0_3072).set]{fullShare} fo)
      ∗ (oM.view.loc (c : Thread nD τ) ↦[oM.view.setOn (Rect.unit (s := S1024x8192) ![0, 4096] S1024x1024.size inb_S1024x8192_S1024x1024_0_4096).set]{fullShare} fo)
      ∗ (oM.view.loc (c : Thread nD τ) ↦[oM.view.setOn (Rect.unit (s := S1024x8192) ![0, 5120] S1024x1024.size inb_S1024x8192_S1024x1024_0_5120).set]{fullShare} fo)
      ∗ (oM.view.loc (c : Thread nD τ) ↦[oM.view.setOn (Rect.unit (s := S1024x8192) ![0, 6144] S1024x1024.size inb_S1024x8192_S1024x1024_0_6144).set]{fullShare} fo)
      ∗ (oM.view.loc (c : Thread nD τ) ↦[oM.view.setOn (Rect.unit (s := S1024x8192) ![0, 7168] S1024x1024.size inb_S1024x8192_S1024x1024_0_7168).set]{fullShare} fo)
      ∗ (eM.view.loc (c : Thread nD τ) ↦[eM.view.setOn (Rect.unit (s := S2x1024x1024) ![0, 0, 0] S1x1024x1024.size inb_S2x1024x1024_S1x1024x1024_0_0_0).set]{fullShare} e0)
      ∗ (eM.view.loc (c : Thread nD τ) ↦[eM.view.setOn (Rect.unit (s := S2x1024x1024) ![1, 0, 0] S1x1024x1024.size inb_S2x1024x1024_S1x1024x1024_1_0_0).set]{fullShare} e1)
      ∗ semVal ((c : Thread nD τ), .dma (11 : DmaSem sig)) 0
      ∗ semVal ((c : Thread nD τ), .dma (12 : DmaSem sig)) 0
      ∗ semVal ((c : Thread nD τ), .dma (13 : DmaSem sig)) 0
      ∗ semVal ((c : Thread nD τ), .dma (14 : DmaSem sig)) 0
      ∗ owes (c : Thread nD τ) 0 W
      ∗ cellInv ER (rd m ρ) (κ 0) (rcvCell c 0) ∗ cellInv ER (rd m ρ) (κ 1) (rcvCell c 1) ∗ cellInv ER (rd m ρ) (κ 2) (rcvCell c 2)
      ∗ cred (tallyAt (rcvCell c 0) () N) ∗ cred (tallyAt (rcvCell c 1) () N) ∗ cred (tallyAt (rcvCell c 2) () N)
      ∗ atPos ER (rcvCell c 0) 0 ∅ 0 ∗ atPos ER (rcvCell c 1) 0 ∅ 0 ∗ atPos ER (rcvCell c 2) 0 ∅ 0
      ∗ sendPre m ρ c κs)

/-- What it leaves: the result staging tile by tile at its final contents. -/
def tailPost (c : Dev nD) (v54 : F .f32) (fw : (main_arg1 : Ref sig .tc).ty.Contents (Elt F)) (fx : (cc0_stg0_0 : Ref sig .tc).ty.Contents (Elt F)) : sProp 𝕄 :=
  iprop((wM.view.loc (c : Thread nD τ) ↦{Transfers.shareTokN fullShare 11} fw)
      ∗ (wM.view.loc (c : Thread nD τ) ↦{Transfers.shareTokN fullShare 12} fw)
      ∗ (wM.view.loc (c : Thread nD τ) ↦{Transfers.shareTokN fullShare 13} fw)
      ∗ (wM.view.loc (c : Thread nD τ) ↦{Transfers.shareTokN fullShare 14} fw)
      ∗ (∃ f, ((slotAt ![0, 0, 0] inb_S4x1024x1024_S1x1024x1024_0_0_0).view.loc (c : Thread nD τ) ↦[(slotAt ![0, 0, 0] inb_S4x1024x1024_S1x1024x1024_0_0_0).view.set]{fullShare} f))
      ∗ (∃ f, ((slotAt ![1, 0, 0] inb_S4x1024x1024_S1x1024x1024_1_0_0).view.loc (c : Thread nD τ) ↦[(slotAt ![1, 0, 0] inb_S4x1024x1024_S1x1024x1024_1_0_0).view.set]{fullShare} f))
      ∗ (∃ f, ((slotAt ![2, 0, 0] inb_S4x1024x1024_S1x1024x1024_2_0_0).view.loc (c : Thread nD τ) ↦[(slotAt ![2, 0, 0] inb_S4x1024x1024_S1x1024x1024_2_0_0).view.set]{fullShare} f))
      ∗ (∃ f, ((slotAt ![3, 0, 0] inb_S4x1024x1024_S1x1024x1024_3_0_0).view.loc (c : Thread nD τ) ↦[(slotAt ![3, 0, 0] inb_S4x1024x1024_S1x1024x1024_3_0_0).view.set]{fullShare} f))
      ∗ (xM.view.loc (c : Thread nD τ) ↦[xM.view.setOn (Rect.unit (s := S4096x1024) (k0_off9 c) S1024x1024.size (k0_off9_inb c)).set]{fullShare} fx)
      ∗ (oM.view.loc (c : Thread nD τ) ↦[oM.view.setOn (Rect.unit (s := S1024x8192) ![0, 0] S1024x1024.size inb_S1024x8192_S1024x1024_0_0).set]{fullShare} (outOf v54 (xTile c fx) (gTile m ρ c 0) (gTile m ρ c 1) (gTile m ρ c 2) fw c))
      ∗ (oM.view.loc (c : Thread nD τ) ↦[oM.view.setOn (Rect.unit (s := S1024x8192) ![0, 1024] S1024x1024.size inb_S1024x8192_S1024x1024_0_1024).set]{fullShare} (outOf v54 (xTile c fx) (gTile m ρ c 0) (gTile m ρ c 1) (gTile m ρ c 2) fw c))
      ∗ (oM.view.loc (c : Thread nD τ) ↦[oM.view.setOn (Rect.unit (s := S1024x8192) ![0, 2048] S1024x1024.size inb_S1024x8192_S1024x1024_0_2048).set]{fullShare} (outOf v54 (xTile c fx) (gTile m ρ c 0) (gTile m ρ c 1) (gTile m ρ c 2) fw c))
      ∗ (oM.view.loc (c : Thread nD τ) ↦[oM.view.setOn (Rect.unit (s := S1024x8192) ![0, 3072] S1024x1024.size inb_S1024x8192_S1024x1024_0_3072).set]{fullShare} (outOf v54 (xTile c fx) (gTile m ρ c 0) (gTile m ρ c 1) (gTile m ρ c 2) fw c))
      ∗ (oM.view.loc (c : Thread nD τ) ↦[oM.view.setOn (Rect.unit (s := S1024x8192) ![0, 4096] S1024x1024.size inb_S1024x8192_S1024x1024_0_4096).set]{fullShare} (outOf v54 (xTile c fx) (gTile m ρ c 0) (gTile m ρ c 1) (gTile m ρ c 2) fw c))
      ∗ (oM.view.loc (c : Thread nD τ) ↦[oM.view.setOn (Rect.unit (s := S1024x8192) ![0, 5120] S1024x1024.size inb_S1024x8192_S1024x1024_0_5120).set]{fullShare} (outOf v54 (xTile c fx) (gTile m ρ c 0) (gTile m ρ c 1) (gTile m ρ c 2) fw c))
      ∗ (oM.view.loc (c : Thread nD τ) ↦[oM.view.setOn (Rect.unit (s := S1024x8192) ![0, 6144] S1024x1024.size inb_S1024x8192_S1024x1024_0_6144).set]{fullShare} (outOf v54 (xTile c fx) (gTile m ρ c 0) (gTile m ρ c 1) (gTile m ρ c 2) fw c))
      ∗ (oM.view.loc (c : Thread nD τ) ↦[oM.view.setOn (Rect.unit (s := S1024x8192) ![0, 7168] S1024x1024.size inb_S1024x8192_S1024x1024_0_7168).set]{fullShare} (outOf v54 (xTile c fx) (gTile m ρ c 0) (gTile m ρ c 1) (gTile m ρ c 2) fw c))
      ∗ (∃ f, (eM.view.loc (c : Thread nD τ) ↦[eM.view.setOn (Rect.unit (s := S2x1024x1024) ![0, 0, 0] S1x1024x1024.size inb_S2x1024x1024_S1x1024x1024_0_0_0).set]{fullShare} f))
      ∗ (∃ f, (eM.view.loc (c : Thread nD τ) ↦[eM.view.setOn (Rect.unit (s := S2x1024x1024) ![1, 0, 0] S1x1024x1024.size inb_S2x1024x1024_S1x1024x1024_1_0_0).set]{fullShare} f))
      ∗ semVal ((c : Thread nD τ), .dma (11 : DmaSem sig)) 0
      ∗ semVal ((c : Thread nD τ), .dma (12 : DmaSem sig)) 0
      ∗ semVal ((c : Thread nD τ), .dma (13 : DmaSem sig)) 0
      ∗ semVal ((c : Thread nD τ), .dma (14 : DmaSem sig)) 0
      ∗ (∃ W, owes (c : Thread nD τ) 0 W)
      ∗ atPos ER (rcvCell c 0) 1 ∅ 0 ∗ atPos ER (rcvCell c 1) 1 ∅ 0 ∗ atPos ER (rcvCell c 2) 1 ∅ 0
      ∗ (gM.view.loc (c : Thread nD τ) ↦[gM.view.setOn (Rect.unit (s := S4x1024x1024) (k0_off15 c 1#32) S1x1024x1024.size (k0_off15_inb c 0)).set]{fullShare} gath m ρ c)
      ∗ (gM.view.loc (c : Thread nD τ) ↦[gM.view.setOn (Rect.unit (s := S4x1024x1024) (k0_off15 c 2#32) S1x1024x1024.size (k0_off15_inb c 1)).set]{fullShare} gath m ρ c)
      ∗ (gM.view.loc (c : Thread nD τ) ↦[gM.view.setOn (Rect.unit (s := S4x1024x1024) (k0_off15 c 3#32) S1x1024x1024.size (k0_off15_inb c 2)).set]{fullShare} gath m ρ c)
      ∗ sendPost m ρ c)

set_option maxHeartbeats 2000000 in
theorem tail_wp [∀ e, Nonempty (Elt F e)] (c : Dev nD) (v2 : BitVec 32) (v54 : F .f32) (κ κs : Fin 3 → ℕ)
    (fw : Buf (Elt F) (wM.view.loc (c : Thread nD τ))) (t0 t1 t2 t3 : Buf (Elt F) (tM.view.loc (c : Thread nD τ)))
    (fx : Buf (Elt F) (xM.view.loc (c : Thread nD τ))) (fo : Buf (Elt F) (oM.view.loc (c : Thread nD τ)))
    (e0 e1 : Buf (Elt F) (eM.view.loc (c : Thread nD τ))) (W : Waits sig Unit) (Q : PUnit → sProp 𝕄) :
    iprop(tailPre m ρ c κ κs fw t0 t1 t2 t3 fx fo e0 e1 W ∗ (tailPost m ρ c v54 fw fx -∗ Q ⟨⟩))
      ⊢ wp frame (wpE (defs₀ (F := F)) Variants.none (c : Thread nD τ) none) Set.univ (tail (F := F) c v2 v54) Q := by
  unfold tailPre
  iintro ⟨⟨Hw0, Hw1, Hw2, Hw3, Ht0, Ht1, Ht2, Ht3, Hx, Ho0, Ho1, Ho2, Ho3, Ho4, Ho5, Ho6, Ho7, He0, He1, Hs0, Hs1, Hs2, Hs3, HO, #I0, #I1, #I2, C0, C1, C2, A0, A1, A2, HS⟩, HQ⟩
  unfold tail
  sl_exec_parts
  unfold sendPre
  icases HS with ⟨#J0, #J1, #J2, ⟨D0, D1, D2⟩, B0, B1, B2⟩
  iapply (wp_wait_send m ρ c 0 (κs 0) _ (by decide)) $$ [D0 HO B0]
  · isplitr; · iexact J0
    isplitl [D0]; · iexact D0
    isplitl [HO]; · iexact HO
    iexact B0
  iintro ⟨⟨%W0, HO⟩, B0, R0⟩
  iapply (wp_wait_send m ρ c 1 (κs 1) _ (by decide)) $$ [D1 HO B1]
  · isplitr; · iexact J1
    isplitl [D1]; · iexact D1
    isplitl [HO]; · iexact HO
    iexact B1
  iintro ⟨⟨%W1, HO⟩, B1, R1⟩
  iapply (Entails.of_eq (wp_ret _ _ _ _ _).symm); imodintro
  iapply (wp_wait_send m ρ c 2 (κs 2) _ (by decide)) $$ [D2 HO B2]
  · isplitr; · iexact J2
    isplitl [D2]; · iexact D2
    isplitl [HO]; · iexact HO
    iexact B2
  iintro ⟨⟨%W2, HO⟩, B2, R2⟩
  iapply (Entails.of_eq (wp_ret _ _ _ _ _).symm); imodintro
  iapply HQ
  unfold tailPost
  isplitl [Hw0]; · iexact Hw0
  isplitl [Hw1]; · iexact Hw1
  isplitl [Hw2]; · iexact Hw2
  isplitl [Hw3]; · iexact Hw3
  isplitl [Ht0]; · iexists _; iexact Ht0
  isplitl [Ht1]; · iexists _; iexact Ht1
  isplitl [Ht2]; · iexists _; iexact Ht2
  isplitl [Ht3]; · iexists _; iexact Ht3
  isplitl [Hx]; · iexact Hx
  isplitl [Ho0]
  · iapply (Entails.of_eq (tile_pts c 0 inb_S1024x8192_S1024x1024_0_0 rfl v54 _ _ _ _ fw fo _ _
      (tile_run v54 _ _ _ _ fw c 0 (k0_off4_eq c 0) (k0_off4_eq c 1) (k0_off4_eq c 2) (k0_off4_eq c 3)))); iexact Ho0
  isplitl [Ho1]
  · iapply (Entails.of_eq (tile_pts c 1 inb_S1024x8192_S1024x1024_0_1024 rfl v54 _ _ _ _ fw fo _ _
      (tile_run v54 _ _ _ _ fw c 1 (k0_off5_eq c 0) (k0_off5_eq c 1) (k0_off5_eq c 2) (k0_off5_eq c 3)))); iexact Ho1
  isplitl [Ho2]
  · iapply (Entails.of_eq (tile_pts c 2 inb_S1024x8192_S1024x1024_0_2048 rfl v54 _ _ _ _ fw fo _ _
      (tile_run v54 _ _ _ _ fw c 2 (k0_off6_eq c 0) (k0_off6_eq c 1) (k0_off6_eq c 2) (k0_off6_eq c 3)))); iexact Ho2
  isplitl [Ho3]
  · iapply (Entails.of_eq (tile_pts c 3 inb_S1024x8192_S1024x1024_0_3072 rfl v54 _ _ _ _ fw fo _ _
      (tile_run v54 _ _ _ _ fw c 3 (k0_off7_eq c 0) (k0_off7_eq c 1) (k0_off7_eq c 2) (k0_off7_eq c 3)))); iexact Ho3
  isplitl [Ho4]
  · iapply (Entails.of_eq (tile_pts c 4 inb_S1024x8192_S1024x1024_0_4096 rfl v54 _ _ _ _ fw fo _ _
      (tile_run v54 _ _ _ _ fw c 4 (k0_off8_eq c 0) (k0_off8_eq c 1) (k0_off8_eq c 2) (k0_off8_eq c 3)))); iexact Ho4
  isplitl [Ho5]
  · iapply (Entails.of_eq (tile_pts c 5 inb_S1024x8192_S1024x1024_0_5120 rfl v54 _ _ _ _ fw fo _ _
      (tile_run v54 _ _ _ _ fw c 5 (k0_off10_eq c 0) (k0_off10_eq c 1) (k0_off10_eq c 2) (k0_off10_eq c 3)))); iexact Ho5
  isplitl [Ho6]
  · iapply (Entails.of_eq (tile_pts c 6 inb_S1024x8192_S1024x1024_0_6144 rfl v54 _ _ _ _ fw fo _ _
      (tile_run v54 _ _ _ _ fw c 6 (k0_off11_eq c 0) (k0_off11_eq c 1) (k0_off11_eq c 2) (k0_off11_eq c 3)))); iexact Ho6
  isplitl [Ho7]
  · iapply (Entails.of_eq (tile_pts c 7 inb_S1024x8192_S1024x1024_0_7168 rfl v54 _ _ _ _ fw fo _ _
      (tile_run v54 _ _ _ _ fw c 7 (k0_off12_eq c 0) (k0_off12_eq c 1) (k0_off12_eq c 2) (k0_off12_eq c 3)))); iexact Ho7
  isplitl [He0]; · iexists _; iexact He0
  isplitl [He1]; · iexists _; iexact He1
  isplitl [Hs0]; · iexact Hs0
  isplitl [Hs1]; · iexact Hs1
  isplitl [Hs2]; · iexact Hs2
  isplitl [Hs3]; · iexact Hs3
  isplitl [HO]; · iexists _; iexact HO
  isplitl [A0]; · iexact A0
  isplitl [A1]; · iexact A1
  isplitl [A2]; · iexact A2
  isplitl [A0_pay1]; · iexact A0_pay1
  isplitl [A1_pay1]; · iexact A1_pay1
  isplitl [A2_pay1]; · iexact A2_pay1
  unfold sendPost
  isplitl [B0 B1 B2]
  · isplitl [B0]; · iexact B0
    isplitl [B1]; · iexact B1
    iexact B2
  isplitl [R0]; · iexact R0
  isplitl [R1]; · iexact R1
  iexact R2

end Cert.KernelIdeal.Run

end
-- ==== Proof.KernelIdeal.Body.lean ====
/-
# `KernelIdeal`: the body of a device

What a device starts from and what its body leaves, and the body run from one to the other at any device `c`: the handshake,
the sends, the weight pipeline, the closing of the protocol's cells.
-/
module

public import proofs.«01_k».proof.Proof.KernelIdeal.Head
public import proofs.«01_k».proof.Proof.KernelIdeal.Split
public import proofs.«01_k».proof.Proof.KernelIdeal.Tail

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 8 → ℕ)

/-! ## The body from the weight pipeline on, over whole buffers -/

theorem rcv_cred (c : Dev nD) (k : Fin 3) : (cred (tallyAt (recvCell c (rot (k.val + 1) c)) () N) : sProp 𝕄) ⊢ cred (tallyAt (rcvCell c k) () N) := by
  rw [rcvCell_eq]
theorem rcv_pos (c : Dev nD) (k : Fin 3) (R : ℕ) :
    (atPos ER (recvCell c (rot (k.val + 1) c)) R ∅ 0 : sProp 𝕄) = atPos ER (rcvCell c k) R ∅ 0 := by
  rw [rcvCell_eq]
theorem rcv_inv (c : Dev nD) (k : Fin 3) :
    records (F := F) m ρ K ⊢ cellInv ER (rd m ρ) (K (c, kR (rot (k.val + 1) c))) (rcvCell c k) := by
  rw [rcvCell_eq]; exact inv_recv m ρ K c _

def restPre (c : Dev nD) (fw : (main_arg1 : Ref sig .tc).ty.Contents (Elt F)) (t : (cc0_scratch1 : Ref sig .tc).ty.Contents (Elt F))
    (fx : (cc0_stg0_0 : Ref sig .tc).ty.Contents (Elt F)) (fo : (cc0_stg3_0 : Ref sig .tc).ty.Contents (Elt F))
    (e : (cc0_scratch2 : Ref sig .tc).ty.Contents (Elt F)) (W : Waits sig Unit) : sProp 𝕄 :=
  iprop(records m ρ K ∗ (wM.view.loc (c : Thread nD τ) ↦{fullShare} fw) ∗ (tM.view.loc (c : Thread nD τ) ↦{fullShare} t)
    ∗ (xM.view.loc (c : Thread nD τ) ↦[rowSet c c]{fullShare} fx) ∗ (oM.view.loc (c : Thread nD τ) ↦{fullShare} fo)
    ∗ (eM.view.loc (c : Thread nD τ) ↦{fullShare} e)
    ∗ (semVal (ringCell c 0) 0 ∗ semVal (ringCell c 1) 0 ∗ semVal (ringCell c 2) 0 ∗ semVal (ringCell c 3) 0)
    ∗ owes (c : Thread nD τ) 0 W
    ∗ (cred (tallyAt (recvCell c (rot 1 c)) () N) ∗ cred (tallyAt (recvCell c (rot 2 c)) () N) ∗ cred (tallyAt (recvCell c (rot 3 c)) () N))
    ∗ (atPos ER (recvCell c (rot 1 c)) 0 ∅ 0 ∗ atPos ER (recvCell c (rot 2 c)) 0 ∅ 0 ∗ atPos ER (recvCell c (rot 3 c)) 0 ∅ 0)
    ∗ (cred (tallyAt (sendCell c 0) () N) ∗ cred (tallyAt (sendCell c 1) () N) ∗ cred (tallyAt (sendCell c 2) () N))
    ∗ atPos ER (sendCell c 0) 0 ∅ 0 ∗ atPos ER (sendCell c 1) 0 ∅ 0 ∗ atPos ER (sendCell c 2) 0 ∅ 0)

/-- The result staging at the end, from the product `s` of the scales, the staged `x` and the weights. -/
def outFrom (c : Dev nD) (s : F .f32) (fw : (main_arg1 : Ref sig .tc).ty.Contents (Elt F)) (fx : (cc0_stg0_0 : Ref sig .tc).ty.Contents (Elt F)) :
    (cc0_stg3_0 : Ref sig .tc).ty.Contents (Elt F) :=
  outOf s (xTile c fx) (gTile m ρ c 0) (gTile m ρ c 1) (gTile m ρ c 2) fw c

def restPost (c : Dev nD) (s : F .f32) (fw : (main_arg1 : Ref sig .tc).ty.Contents (Elt F)) (fx : (cc0_stg0_0 : Ref sig .tc).ty.Contents (Elt F)) : sProp 𝕄 :=
  iprop((wM.view.loc (c : Thread nD τ) ↦{fullShare} fw) ∗ (∃ f : Buf (Elt F) (tM.view.loc (c : Thread nD τ)), tM.view.loc (c : Thread nD τ) ↦{fullShare} f)
    ∗ (xM.view.loc (c : Thread nD τ) ↦[rowSet c c]{fullShare} fx) ∗ (oM.view.loc (c : Thread nD τ) ↦{fullShare} outFrom m ρ c s fw fx)
    ∗ (∃ f : Buf (Elt F) (eM.view.loc (c : Thread nD τ)), eM.view.loc (c : Thread nD τ) ↦{fullShare} f)
    ∗ (semVal (ringCell c 0) 0 ∗ semVal (ringCell c 1) 0 ∗ semVal (ringCell c 2) 0 ∗ semVal (ringCell c 3) 0)
    ∗ (∃ W, owes (c : Thread nD τ) 0 W)
    ∗ (atPos ER (recvCell c (rot 1 c)) 1 ∅ 0 ∗ atPos ER (recvCell c (rot 2 c)) 1 ∅ 0 ∗ atPos ER (recvCell c (rot 3 c)) 1 ∅ 0)
    ∗ (landPts c (rot 1 c) (gath m ρ c) ∗ landPts c (rot 2 c) (gath m ρ c) ∗ landPts c (rot 3 c) (gath m ρ c))
    ∗ sendPost m ρ c)

theorem rest_wp [∀ e, Nonempty (Elt F e)] (c : Dev nD) (v : BitVec 32) (s : F .f32) (fw : (main_arg1 : Ref sig .tc).ty.Contents (Elt F))
    (t : (cc0_scratch1 : Ref sig .tc).ty.Contents (Elt F)) (fx : (cc0_stg0_0 : Ref sig .tc).ty.Contents (Elt F))
    (fo : (cc0_stg3_0 : Ref sig .tc).ty.Contents (Elt F)) (e : (cc0_scratch2 : Ref sig .tc).ty.Contents (Elt F)) (W : Waits sig Unit) (Q : PUnit → sProp 𝕄) :
    iprop(restPre m ρ K c fw t fx fo e W ∗ (restPost m ρ c s fw fx -∗ Q ⟨⟩))
      ⊢ wp frame (wpE (defs₀ (F := F)) Variants.none (c : Thread nD τ) none) Set.univ (tail (F := F) c v s) Q := by
  unfold restPre
  iintro ⟨⟨#HR, HW, HT, HX, HO, HE, ⟨V0, V1, V2, V3⟩, HL, ⟨C0, C1, C2⟩, ⟨A0, A1, A2⟩, ⟨D0, D1, D2⟩, B0, B1, B2⟩, HQ⟩
  ihave HW := (w_shares c fw).1 $$ HW
  icases HW with ⟨HWR, W0, W1, W2, W3⟩
  ihave HT := (Entails.of_eq (ring_slots c t)) $$ HT
  icases HT with ⟨T0, T1, T2, T3⟩
  ihave HO := (Entails.of_eq (out_tiles c fo)) $$ HO
  icases HO with ⟨O0, O1, O2, O3, O4, O5, O6, O7⟩
  ihave HE := (Entails.of_eq (round_slots c e)) $$ HE
  icases HE with ⟨E0, E1⟩
  iapply (tail_wp m ρ c v s (fun k => K (c, kR (rot (k.val + 1) c))) (fun k => K (c, kS k)) fw t t t t fx fo e e W Q)
  isplitl [W0 W1 W2 W3 T0 T1 T2 T3 HX O0 O1 O2 O3 O4 O5 O6 O7 E0 E1 V0 V1 V2 V3 HL C0 C1 C2 A0 A1 A2 D0 D1 D2 B0 B1 B2]
  · unfold tailPre sendPre
    isplitl [W0]; · iexact W0
    isplitl [W1]; · iexact W1
    isplitl [W2]; · iexact W2
    isplitl [W3]; · iexact W3
    isplitl [T0]; · iexact T0
    isplitl [T1]; · iexact T1
    isplitl [T2]; · iexact T2
    isplitl [T3]; · iexact T3
    isplitl [HX]; · iexact HX
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [E0]; · iexact E0
    isplitl [E1]; · iexact E1
    isplitl [V0]; · iexact V0
    isplitl [V1]; · iexact V1
    isplitl [V2]; · iexact V2
    isplitl [V3]; · iexact V3
    isplitl [HL]; · iexact HL
    isplitr; · iapply (rcv_inv m ρ K c 0); iexact HR
    isplitr; · iapply (rcv_inv m ρ K c 1); iexact HR
    isplitr; · iapply (rcv_inv m ρ K c 2); iexact HR
    isplitl [C0]; · iapply (rcv_cred c 0); iexact C0
    isplitl [C1]; · iapply (rcv_cred c 1); iexact C1
    isplitl [C2]; · iapply (rcv_cred c 2); iexact C2
    isplitl [A0]; · iapply (Entails.of_eq (rcv_pos c 0 0)); iexact A0
    isplitl [A1]; · iapply (Entails.of_eq (rcv_pos c 1 0)); iexact A1
    isplitl [A2]; · iapply (Entails.of_eq (rcv_pos c 2 0)); iexact A2
    isplitr; · iapply (inv_send m ρ K c 0); iexact HR
    isplitr; · iapply (inv_send m ρ K c 1); iexact HR
    isplitr; · iapply (inv_send m ρ K c 2); iexact HR
    isplitl [D0 D1 D2]
    · isplitl [D0]; · iexact D0
      isplitl [D1]; · iexact D1
      iexact D2
    isplitl [B0]; · iexact B0
    isplitl [B1]; · iexact B1
    iexact B2
  unfold tailPost
  iintro ⟨W0, W1, W2, W3, T0, T1, T2, T3, HX, O0, O1, O2, O3, O4, O5, O6, O7, E0, E1, V0, V1, V2, V3, HL, A0, A1, A2, G0, G1, G2, HS⟩
  iapply HQ
  unfold restPost outFrom
  isplitl [HWR W0 W1 W2 W3]
  · iapply (w_shares c fw).2
    isplitl [HWR]; · iexact HWR
    isplitl [W0]; · iexact W0
    isplitl [W1]; · iexact W1
    isplitl [W2]; · iexact W2
    iexact W3
  isplitl [T0 T1 T2 T3]
  · iapply (ring_join c t)
    isplitl [T0]; · iexact T0
    isplitl [T1]; · iexact T1
    isplitl [T2]; · iexact T2
    iexact T3
  isplitl [HX]; · iexact HX
  isplitl [O0 O1 O2 O3 O4 O5 O6 O7]
  · iapply (Entails.of_eq (out_tiles c _).symm)
    isplitl [O0]; · iexact O0
    isplitl [O1]; · iexact O1
    isplitl [O2]; · iexact O2
    isplitl [O3]; · iexact O3
    isplitl [O4]; · iexact O4
    isplitl [O5]; · iexact O5
    isplitl [O6]; · iexact O6
    iexact O7
  isplitl [E0 E1]
  · iapply (round_join c e)
    isplitl [E0]; · iexact E0
    iexact E1
  isplitl [V0 V1 V2 V3]
  · isplitl [V0]; · iexact V0
    isplitl [V1]; · iexact V1
    isplitl [V2]; · iexact V2
    iexact V3
  isplitl [HL]; · iexact HL
  isplitl [A0 A1 A2]
  · isplitl [A0]; · iapply (Entails.of_eq (rcv_pos c 0 1).symm); iexact A0
    isplitl [A1]; · iapply (Entails.of_eq (rcv_pos c 1 1).symm); iexact A1
    iapply (Entails.of_eq (rcv_pos c 2 1).symm); iexact A2
  isplitl [G0 G1 G2]
  · isplitl [G0]; · iapply (Entails.of_eq (landPts_eq c 0 (gath m ρ c)).symm); iexact G0
    isplitl [G1]; · iapply (Entails.of_eq (landPts_eq c 1 (gath m ρ c)).symm); iexact G1
    iapply (Entails.of_eq (landPts_eq c 2 (gath m ρ c)).symm); iexact G2
  iexact HS

/-! ## What a device starts from and what its body leaves -/

/-- The two scales staged on device `c`. -/
def astg (c : Dev nD) : (cc0_stg1_0 : Ref sig .tc).ty.Contents (Elt F) :=
  (win0_1.blk (0 : Fin 1)).view.read (Elt F) ((s₀ m ρ).mem ((c : Thread nD τ).loc main_arg2))
def bstg (c : Dev nD) : (cc0_stg2_0 : Ref sig .tc).ty.Contents (Elt F) :=
  (win0_2.blk (0 : Fin 1)).view.read (Elt F) ((s₀ m ρ).mem ((c : Thread nD τ).loc main_arg3))
/-- The array of weights of device `c`. -/
def wArr (c : Dev nD) : (main_arg1 : Ref sig .tc).ty.Contents (Elt F) := m ((c : Thread nD τ).loc main_arg1)

/-- The result of device `c`. -/
def outAt (c : Dev nD) : (cc0_stg3_0 : Ref sig .tc).ty.Contents (Elt F) :=
  outFrom m ρ c (k0_pay1 (scal (astg m ρ c)) (scal (bstg m ρ c))) (wArr m c) (xstg m ρ c)

/-- The tokens of the duties device `c` pays: its peers' barriers, its own sends, its peers' receives. -/
def payToks (c : Dev nD) : sProp 𝕄 :=
  iprop((dutyTok ER (barCell (rot 1 c)) 0 3 ∗ dutyTok ER (barCell (rot 2 c)) 0 2 ∗ dutyTok ER (barCell (rot 3 c)) 0 1)
    ∗ (dutyTok ER (sendCell c 0) 0 0 ∗ dutyTok ER (sendCell c 1) 0 0 ∗ dutyTok ER (sendCell c 2) 0 0)
    ∗ (dutyTok ER (recvCell (rot 1 c) c) 0 0 ∗ dutyTok ER (recvCell (rot 2 c) c) 0 0 ∗ dutyTok ER (recvCell (rot 3 c) c) 0 0))

/-- What is device `c`'s alone of the protocol: its positions, those tokens, the counters of its weight ring. -/
def linear (c : Dev nD) : sProp 𝕄 :=
  iprop((atPos ER (barCell c) 0 ∅ 0 ∗ (atPos ER (sendCell c 0) 0 ∅ 0 ∗ atPos ER (sendCell c 1) 0 ∅ 0 ∗ atPos ER (sendCell c 2) 0 ∅ 0)
      ∗ bigSep Finset.univ fun s : Dev nD => atPos ER (recvCell c s) 0 ∅ 0)
    ∗ payToks c
    ∗ (semVal (ringCell c 0) 0 ∗ semVal (ringCell c 1) 0 ∗ semVal (ringCell c 2) 0 ∗ semVal (ringCell c 3) 0))

def ghost (c : Dev nD) : sProp 𝕄 := iprop(records m ρ K ∗ linear c)

def start (c : Dev nD) : sProp 𝕄 :=
  iprop((∃ K, ghost m ρ K c)
    ∗ (cred (tallyAt (barCell c) () 3)
      ∗ cred (tallyAt (recvCell c (rot 1 c)) () N) ∗ cred (tallyAt (recvCell c (rot 2 c)) () N) ∗ cred (tallyAt (recvCell c (rot 3 c)) () N))
    ∗ levAts L lv ∗ (wM.view.loc (c : Thread nD τ) ↦{fullShare} wArr m c))

/-- The three scratch buffers, whatever they hold. -/
def scratch (c : Dev nD) : sProp 𝕄 :=
  iprop((∃ f : Buf (Elt F) (gM.view.loc (c : Thread nD τ)), gM.view.loc (c : Thread nD τ) ↦{fullShare} f)
    ∗ (∃ f : Buf (Elt F) (tM.view.loc (c : Thread nD τ)), tM.view.loc (c : Thread nD τ) ↦{fullShare} f)
    ∗ (∃ f : Buf (Elt F) (eM.view.loc (c : Thread nD τ)), eM.view.loc (c : Thread nD τ) ↦{fullShare} f))

/-- The counters of device `c`, all back at zero. -/
def zeros (c : Dev nD) : sProp 𝕄 :=
  iprop(semVal (barCell c) 0 ∗ (semVal (sendCell c 0) 0 ∗ semVal (sendCell c 1) 0 ∗ semVal (sendCell c 2) 0)
    ∗ (bigSep Finset.univ fun s : Dev nD => semVal (recvCell c s) 0)
    ∗ (semVal (ringCell c 0) 0 ∗ semVal (ringCell c 1) 0 ∗ semVal (ringCell c 2) 0 ∗ semVal (ringCell c 3) 0))

def Φ₀ (c : Dev nD) : sProp 𝕄 := iprop(start m ρ c ∗ scratch c)
def Φ₁ (c : Dev nD) : sProp 𝕄 := iprop(scratch c ∗ zeros c ∗ (wM.view.loc (c : Thread nD τ) ↦{fullShare} wArr m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => astg m ρ c
    | ⟨2, _⟩ => bstg m ρ c
    | ⟨3, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-! ## The whole body -/

theorem landPts_set (c s : Dev nD) (f) : (landPts c s f : sProp 𝕄) = (gM.view.loc (c : Thread nD τ) ↦[landSet c s]{fullShare} f) := by
  unfold landPts; rw [landM_set]
theorem rowPts_set (c d : Dev nD) : rowPts m ρ c d = (xM.view.loc (c : Thread nD τ) ↦[rowSet c d]{fullShare} xstg m ρ c) := by
  unfold rowPts; rw [View.set_slice]; rfl

/-- The receive cells of device `c`, listed from its own on. -/
theorem recv_around (c : Dev nD) (Φ : Dev nD → sProp 𝕄) : bigSep Finset.univ Φ = iprop(Φ c ∗ Φ (rot 1 c) ∗ Φ (rot 2 c) ∗ Φ (rot 3 c)) := by
  rw [bigSep_univ_eq_bigSepL (around c) (around_all c) (around_nodup c)]; rfl

/-- The body of the kernel on device `c`. -/
abbrev body : Prog (TpuEff nD τ sig (Elt F) Λ₀ .tc) PUnit :=
  cc0_body (F := F) xM (Memref.isWhole_whole _) wM (Memref.isWhole_whole _) aM (Memref.isWhole_whole _) bM (Memref.isWhole_whole _) oM (Memref.isWhole_whole _) gM (Memref.isWhole_whole _) tM (Memref.isWhole_whole _) eM (Memref.isWhole_whole _) cc0_scratch3 cc0_scratch4 cc0_scratch5

def bodyPre (c : Dev nD) (fo : (cc0_stg3_0 : Ref sig .tc).ty.Contents (Elt F)) (W : Waits sig Unit) : sProp 𝕄 :=
  iprop(Φ₀ m ρ c ∗ owes (c : Thread nD τ) (O₀ c) W
    ∗ (xM.view.loc (c : Thread nD τ) ↦{fullShare} xstg m ρ c) ∗ (aM.view.loc (c : Thread nD τ) ↦{fullShare} astg m ρ c)
    ∗ (bM.view.loc (c : Thread nD τ) ↦{fullShare} bstg m ρ c) ∗ (oM.view.loc (c : Thread nD τ) ↦{fullShare} fo))
def bodyPost (c : Dev nD) : sProp 𝕄 :=
  iprop(Φ₁ m c ∗ (∃ W, owes (c : Thread nD τ) 0 W)
    ∗ (xM.view.loc (c : Thread nD τ) ↦{fullShare} xstg m ρ c) ∗ (aM.view.loc (c : Thread nD τ) ↦{fullShare} astg m ρ c)
    ∗ (bM.view.loc (c : Thread nD τ) ↦{fullShare} bstg m ρ c) ∗ (oM.view.loc (c : Thread nD τ) ↦{fullShare} outAt m ρ c))

theorem close_bar (c : Dev nD) : iprop(records m ρ K ∗ atPos ER (barCell c) 1 ∅ 0) ⊢ (|={Set.univ}=> semVal (barCell c) 0 : sProp 𝕄) := by
  iintro ⟨#HR, HA⟩
  iapply (Rounds.cell_close ER (rd m ρ) (Set.mem_univ (K (c, 0))) (fun h => h) (R := 0 + 1) (duties_later m ρ (barCell c)))
  isplitr; · iapply (inv_bar m ρ K c); iexact HR
  iexact HA
theorem close_send (c : Dev nD) (k : Fin 3) : iprop(records m ρ K ∗ atPos ER (sendCell c k) 1 ∅ 0) ⊢ (|={Set.univ}=> semVal (sendCell c k) 0 : sProp 𝕄) := by
  iintro ⟨#HR, HA⟩
  iapply (Rounds.cell_close ER (rd m ρ) (Set.mem_univ (K (c, kS k))) (fun h => h) (R := 0 + 1) (duties_later m ρ (sendCell c k)))
  isplitr; · iapply (inv_send m ρ K c k); iexact HR
  iexact HA
theorem close_recv (c s : Dev nD) : iprop(records m ρ K ∗ atPos ER (recvCell c s) 1 ∅ 0) ⊢ (|={Set.univ}=> semVal (recvCell c s) 0 : sProp 𝕄) := by
  iintro ⟨#HR, HA⟩
  iapply (Rounds.cell_close ER (rd m ρ) (Set.mem_univ (K (c, kR s))) (fun h => h) (R := 0 + 1) (duties_later m ρ (recvCell c s)))
  isplitr; · iapply (inv_recv m ρ K c s); iexact HR
  iexact HA
/-- The receive cell no peer uses was never advanced. -/
theorem close_own (c : Dev nD) : iprop(records m ρ K ∗ atPos ER (recvCell c c) 0 ∅ 0) ⊢ (|={Set.univ}=> semVal (recvCell c c) 0 : sProp 𝕄) := by
  iintro ⟨#HR, HA⟩
  iapply (Rounds.cell_close ER (rd m ρ) (Set.mem_univ (K (c, kR c))) (fun h => h) (R := 0) (duties_own m ρ c))
  isplitr; · iapply (inv_recv m ρ K c c); iexact HR
  iexact HA

set_option maxHeartbeats 800000 in
theorem body_wp [∀ e, Nonempty (Elt F e)] (c : Dev nD) (fo : (cc0_stg3_0 : Ref sig .tc).ty.Contents (Elt F)) (W : Waits sig Unit) (Q : PUnit → sProp 𝕄) :
    iprop(bodyPre m ρ c fo W ∗ (bodyPost m ρ c -∗ Q ⟨⟩))
      ⊢ wp frame (wpE (defs₀ (F := F)) Variants.none (c : Thread nD τ) none) Set.univ (body (F := F)) Q := by
  unfold body
  rw [cc0_body_eq_skeleton]; unfold cc0_body_skel
  rw [wp_bind]
  unfold bodyPre Φ₀ start ghost linear payToks scratch
  rw [recv_around c]
  iintro ⟨⟨⟨⟨⟨%K, #HR, ⟨AB, ⟨AS0, AS1, AS2⟩, AR0, AR1, AR2, AR3⟩, ⟨TB, TS, TR⟩, HV⟩, ⟨CB, CR⟩, #HLev, HW⟩, ⟨%fg, HG⟩, ⟨%ft, HT⟩, ⟨%fe, HE⟩⟩,
    HL, HX, HA, HB, HO⟩, HQ⟩
  ihave HG := (Entails.of_eq (land_slots c fg)) $$ HG
  icases HG with ⟨G0, G1, G2, G3⟩
  ihave HX := (Entails.of_eq (x_rows c (xstg m ρ c))) $$ HX
  icases HX with ⟨X0, X1, X2, X3⟩
  iapply (part1_wp m ρ K c W _)
  isplitl [HL TB G1 G2 G3 CB AB]
  · unfold greetPre
    isplitr; · iexact HR
    isplitr; · iexact HLev
    isplitl [HL]; · iexact HL
    isplitl [TB]; · iexact TB
    isplitl [G1 G2 G3]
    · isplitl [G1]; · iexists fg; iapply (Entails.of_eq (landPts_set c (rot 1 c) fg).symm); iexact G1
      isplitl [G2]; · iexists fg; iapply (Entails.of_eq (landPts_set c (rot 2 c) fg).symm); iexact G2
      iexists fg; iapply (Entails.of_eq (landPts_set c (rot 3 c) fg).symm); iexact G3
    isplitl [CB]; · iexact CB
    iexact AB
  iintro %v HP
  unfold greetPost
  icases HP with ⟨⟨%W1, HL⟩, AB, P1, P2, P3⟩
  iapply (Entails.of_eq (wp_bind _ _ _ _ _ _).symm)
  iapply (part2_wp m ρ K c v W1 (astg m ρ c) (bstg m ρ c) _)
  isplitl [HL X1 X2 X3 P1 P2 P3 TS TR HA HB]
  · unfold postPre
    isplitr; · iexact HR
    isplitl [HL]; · iexact HL
    isplitl [X1 X2 X3]
    · isplitl [X1]; · iapply (Entails.of_eq (rowPts_set m ρ c (rot 1 c)).symm); iexact X1
      isplitl [X2]; · iapply (Entails.of_eq (rowPts_set m ρ c (rot 2 c)).symm); iexact X2
      iapply (Entails.of_eq (rowPts_set m ρ c (rot 3 c)).symm); iexact X3
    isplitl [P1 P2 P3]
    · isplitl [P1]; · iexact P1
      isplitl [P2]; · iexact P2
      iexact P3
    isplitl [TS]; · iexact TS
    isplitl [TR]; · iexact TR
    isplitl [HA]; · iexact HA
    iexact HB
  unfold postPost
  iintro ⟨HL, CS, HA, HB⟩
  iapply (wp_fupd _ _ _ _ Q)
  iapply (rest_wp m ρ K c v _ (wArr m c) ft (xstg m ρ c) fo fe W1 _)
  isplitl [HW HT X0 HO HE HV HL CR AR1 AR2 AR3 CS AS0 AS1 AS2]
  · unfold restPre
    isplitr; · iexact HR
    isplitl [HW]; · iexact HW
    isplitl [HT]; · iexact HT
    isplitl [X0]; · iexact X0
    isplitl [HO]; · iexact HO
    isplitl [HE]; · iexact HE
    isplitl [HV]; · iexact HV
    isplitl [HL]; · iexact HL
    isplitl [CR]; · iexact CR
    isplitl [AR1 AR2 AR3]
    · isplitl [AR1]; · iexact AR1
      isplitl [AR2]; · iexact AR2
      iexact AR3
    isplitl [CS]; · iexact CS
    isplitl [AS0]; · iexact AS0
    isplitl [AS1]; · iexact AS1
    iexact AS2
  unfold restPost sendPost
  iintro ⟨HW, HT, X0, HO, HE, HV, HL, ⟨AR1, AR2, AR3⟩, ⟨G1, G2, G3⟩, ⟨AS0, AS1, AS2⟩, X1, X2, X3⟩
  imod (close_bar m ρ K c) $$ [AB] with ZB
  · isplitr; · iexact HR
    iexact AB
  imod (close_send m ρ K c 0) $$ [AS0] with ZS0
  · isplitr; · iexact HR
    iexact AS0
  imod (close_send m ρ K c 1) $$ [AS1] with ZS1
  · isplitr; · iexact HR
    iexact AS1
  imod (close_send m ρ K c 2) $$ [AS2] with ZS2
  · isplitr; · iexact HR
    iexact AS2
  imod (close_own m ρ K c) $$ [AR0] with ZR0
  · isplitr; · iexact HR
    iexact AR0
  imod (close_recv m ρ K c (rot 1 c)) $$ [AR1] with ZR1
  · isplitr; · iexact HR
    iexact AR1
  imod (close_recv m ρ K c (rot 2 c)) $$ [AR2] with ZR2
  · isplitr; · iexact HR
    iexact AR2
  imod (close_recv m ρ K c (rot 3 c)) $$ [AR3] with ZR3
  · isplitr; · iexact HR
    iexact AR3
  imodintro
  iapply HQ
  unfold bodyPost Φ₁ scratch zeros outAt
  rw [recv_around c]
  isplitl [HT HE HW G0 G1 G2 G3 ZB ZS0 ZS1 ZS2 ZR0 ZR1 ZR2 ZR3 HV]
  · isplitl [HT HE G0 G1 G2 G3]
    · isplitl [G0 G1 G2 G3]
      · iapply (land_join c fg)
        isplitl [G0]; · iexists fg; iexact G0
        isplitl [G1]; · iexists gath m ρ c; iapply (Entails.of_eq (landPts_set c (rot 1 c) _)); iexact G1
        isplitl [G2]; · iexists gath m ρ c; iapply (Entails.of_eq (landPts_set c (rot 2 c) _)); iexact G2
        iexists gath m ρ c; iapply (Entails.of_eq (landPts_set c (rot 3 c) _)); iexact G3
      isplitl [HT]; · iexact HT
      iexact HE
    isplitl [ZB ZS0 ZS1 ZS2 ZR0 ZR1 ZR2 ZR3 HV]
    · isplitl [ZB]; · iexact ZB
      isplitl [ZS0 ZS1 ZS2]
      · isplitl [ZS0]; · iexact ZS0
        isplitl [ZS1]; · iexact ZS1
        iexact ZS2
      isplitl [ZR0 ZR1 ZR2 ZR3]
      · isplitl [ZR0]; · iexact ZR0
        isplitl [ZR1]; · iexact ZR1
        isplitl [ZR2]; · iexact ZR2
        iexact ZR3
      iexact HV
    iexact HW
  isplitl [HL]; · iexact HL
  isplitl [X0 X1 X2 X3]
  · iapply (Entails.of_eq (x_rows c (xstg m ρ c)).symm)
    isplitl [X0]; · iexact X0
    isplitl [X1]; · iapply (Entails.of_eq (rowPts_set m ρ c (rot 1 c))); iexact X1
    isplitl [X2]; · iapply (Entails.of_eq (rowPts_set m ρ c (rot 2 c))); iexact X2
    iapply (Entails.of_eq (rowPts_set m ρ c (rot 3 c))); iexact X3
  isplitl [HA]; · iexact HA
  isplitl [HB]; · iexact HB
  iexact HO

/-! ## The obligation of the pipeline -/

theorem fetch_in (w : Fin 4) (hw : w.val < 3) (t : Fin cfg0.N) : (cfg0.win w).fetch t = true := by
  rw [fin_N0 t]; fin_cases w <;> first | rfl | exact absurd hw (by decide)

/-- A whole buffer and the ownership of its memref. -/
theorem owns_stage_intro (c : Dev nD) (b : Ref sig .tc) (X : b.ty.Contents (Elt F)) :
    ((Memref.whole b).view.loc (c : Thread nD τ) ↦{fullShare} X : sProp 𝕄)
      ⊢ owns (Ix := Unit) (Name := ℕ) (U := UU) (Lvl := ℕ) (c : Thread nD τ) (Memref.whole b) fullShare X := by
  unfold owns; simp only [Memref.view_whole, View.read_whole, View.set_whole]
  iintro H
  iexists X
  isplitr; · (ipureintro; rfl)
  iexact H
theorem owns_stage_elim (c : Dev nD) (b : Ref sig .tc) {X Y : b.ty.Contents (Elt F)} (h : X = Y) :
    (owns (Ix := Unit) (Name := ℕ) (U := UU) (Lvl := ℕ) (c : Thread nD τ) (Memref.whole b) fullShare X : sProp 𝕄)
      ⊢ ((Memref.whole b).view.loc (c : Thread nD τ) ↦{fullShare} Y) := by
  subst h
  unfold owns; simp only [Memref.view_whole, View.read_whole, View.set_whole]
  iintro ⟨%f, %hf, H⟩
  subst hf
  iexact H

set_option maxRecDepth 16000 in
theorem body_obligation [∀ e, Nonempty (Elt F e)] (c : Dev nD) :
    BodyObligation (dats (F := F) m ρ 0 c) (defs₀ (F := F)) Variants.none () Set.univ := fun t => by
  rw [fin_N0 t]
  rw [bigSep_W0, bigSep_W0]
  show iprop(Φ₀ m ρ c ∗ (dats m ρ 0 c).owesAt () t0_0.castSucc
      ∗ (∃ d, owns (c : Thread nD τ) xM fullShare ((dats m ρ 0 c).before (0 : Fin 4) t0_0 d))
      ∗ (∃ d, owns (c : Thread nD τ) aM fullShare ((dats m ρ 0 c).before (1 : Fin 4) t0_0 d))
      ∗ (∃ d, owns (c : Thread nD τ) bM fullShare ((dats m ρ 0 c).before (2 : Fin 4) t0_0 d))
      ∗ (∃ d, owns (c : Thread nD τ) oM fullShare ((dats m ρ 0 c).before (3 : Fin 4) t0_0 d)))
    ⊢ wp frame (wpE (defs₀ (F := F)) Variants.none (c : Thread nD τ) none) Set.univ (body (F := F))
      (fun _ => iprop(Φ₁ m c ∗ (dats m ρ 0 c).owesAt () t0_0.succ
        ∗ owns (c : Thread nD τ) xM fullShare (xstg m ρ c) ∗ owns (c : Thread nD τ) aM fullShare (astg m ρ c)
        ∗ owns (c : Thread nD τ) bM fullShare (bstg m ρ c) ∗ owns (c : Thread nD τ) oM fullShare (outAt m ρ c)))
  unfold Dat.owesAt Pipeline.owesWithin
  rw [show (dats m ρ 0 c).owed t0_0.castSucc = O₀ c from rfl, show (dats m ρ 0 c).owed t0_0.succ = 0 from rfl]
  iintro ⟨HΦ, ⟨%W, -, HL⟩, ⟨%d0, HX⟩, ⟨%d1, HA⟩, ⟨%d2, HB⟩, ⟨%d3, HO⟩⟩
  iapply (body_wp m ρ c ((dats m ρ 0 c).before (3 : Fin 4) t0_0 d3) W _)
  isplitl [HΦ HL HX HA HB HO]
  · unfold bodyPre
    isplitl [HΦ]; · iexact HΦ
    isplitl [HL]; · iexact HL
    isplitl [HX]
    · iapply (owns_stage_elim c cc0_stg0_0 (show (dats m ρ 0 c).before (0 : Fin 4) t0_0 d0 = xstg m ρ c by unfold Dat.before; rw [if_pos (fetch_in 0 (by decide) t0_0)]; rfl)); iexact HX
    isplitl [HA]
    · iapply (owns_stage_elim c cc0_stg1_0 (show (dats m ρ 0 c).before (1 : Fin 4) t0_0 d1 = astg m ρ c by unfold Dat.before; rw [if_pos (fetch_in 1 (by decide) t0_0)]; rfl)); iexact HA
    isplitl [HB]
    · iapply (owns_stage_elim c cc0_stg2_0 (show (dats m ρ 0 c).before (2 : Fin 4) t0_0 d2 = bstg m ρ c by unfold Dat.before; rw [if_pos (fetch_in 2 (by decide) t0_0)]; rfl)); iexact HB
    iapply (owns_stage_elim c cc0_stg3_0 rfl); iexact HO
  unfold bodyPost
  iintro ⟨HΦ, ⟨%W', HL⟩, HX, HA, HB, HO⟩
  isplitl [HΦ]; · iexact HΦ
  isplitl [HL]
  · iexists W'
    isplitr; · (ipureintro; exact fun _ _ => Or.inl trivial)
    iexact HL
  isplitl [HX]; · iapply (owns_stage_intro c cc0_stg0_0 (xstg m ρ c)); iexact HX
  isplitl [HA]; · iapply (owns_stage_intro c cc0_stg1_0 (astg m ρ c)); iexact HA
  isplitl [HB]; · iapply (owns_stage_intro c cc0_stg2_0 (bstg m ρ c)); iexact HB
  iapply (owns_stage_intro c cc0_stg3_0 (outAt m ρ c)); iexact HO

end Cert.KernelIdeal.Run

end
-- ==== Proof.KernelIdeal.Run.lean ====
/-
# `KernelIdeal`: the launch and the run

What is dealt at launch: every device's eight protocol cells under one map of names, their positions, and the tokens of the
duties, minted at the cells' owners and carried around to the devices that pay them. Then the run of the whole program.
-/
module

public import proofs.«01_k».proof.Proof.KernelIdeal.Body
public import Idealize.ShloMosaic.Lib.Quiescent
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of a device -/

/-- The kernel's own eleven: three sends, four receives, four of the weight ring. -/
def osem : Fin 11 → SemLoc sig :=
  ![.dma (sendS 0), .dma (sendS 1), .dma (sendS 2), .dma (recvS 0), .dma (recvS 1), .dma (recvS 2), .dma (recvS 3),
    .dma (ringS 0), .dma (ringS 1), .dma (ringS 2), .dma (ringS 3)]
theorem osem_facts : Pipeline.OwnSemFacts cfg0.spec osem := by decide

def rings (c : Dev nD) : sProp 𝕄 := iprop(semVal (ringCell c 0) 0 ∗ semVal (ringCell c 1) 0 ∗ semVal (ringCell c 2) 0 ∗ semVal (ringCell c 3) 0)

theorem recv_list (Φ : Dev nD → sProp 𝕄) : bigSep Finset.univ Φ = iprop(Φ 0 ∗ Φ 1 ∗ Φ 2 ∗ Φ 3) :=
  bigSep_univ_eq_bigSepL [0, 1, 2, 3] (by decide) (by decide) Φ
theorem cells_list (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- The eight cells of a device: its barrier, its sends, its receives. -/
theorem cells_split (c : Dev nD) (Φ : GSem nD τ sig → sProp 𝕄) :
    bigSep Finset.univ (fun k : Fin 8 => Φ (kcell (c, k)))
      = iprop(Φ (barCell c) ∗ (Φ (sendCell c 0) ∗ Φ (sendCell c 1) ∗ Φ (sendCell c 2)) ∗ bigSep Finset.univ fun s : Dev nD => Φ (recvCell c s)) := by
  rw [cells_list, recv_list]
  refine (show _ = iprop(Φ (barCell c) ∗ Φ (sendCell c 0) ∗ Φ (sendCell c 1) ∗ Φ (sendCell c 2) ∗ Φ (recvCell c 0) ∗ Φ (recvCell c 1) ∗ Φ (recvCell c 2) ∗ Φ (recvCell c 3)) from rfl).trans ?_
  have e (P Q R : sProp 𝕄) : iprop((P ∗ Q) ∗ R) = iprop(P ∗ Q ∗ R) := equiv_iff.mp ⟨BI.sep_assoc, BI.sep_assoc'⟩
  simp only [e]

theorem own_sems (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
      ∗ semVal (recvCell c 0) 0 ∗ semVal (recvCell c 1) 0 ∗ semVal (recvCell c 2) 0 ∗ semVal (recvCell c 3) 0 ∗ rings c) := by
  rw [Pipeline.ownSems0_eq_of_list c osem [0, 1, 2, 3, 4, 5, 6, 7, 8, 9, 10] (by decide) (by decide)]; rfl
theorem barrier_sem (c : Dev nD) : (unscopedSems0 c : sProp 𝕄) = semVal (barCell c) 0 := by
  unfold unscopedSems0; rw [bigSep_eq_bigSepL_of_eq [SemLoc.reg barS] (by decide) (by decide)]; rfl

theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 8 => semVal (kcell (c, k)) 0) ∗ rings c) : sProp 𝕄) := by
  rw [own_sems, barrier_sem, cells_split c (fun g => semVal g 0), recv_list]
  iintro ⟨⟨S0, S1, S2, R0, R1, R2, R3, HV⟩, HB⟩
  isplitr [HV]
  · isplitl [HB]; · iexact HB
    isplitl [S0 S1 S2]
    · isplitl [S0]; · iexact S0
      isplitl [S1]; · iexact S1
      iexact S2
    isplitl [R0]; · iexact R0
    isplitl [R1]; · iexact R1
    isplitl [R2]; · iexact R2
    iexact R3
  iexact HV
theorem sems_join (c : Dev nD) :
    zeros c ⊢ (iprop(unscopedSems0 c ∗ Pipeline.ownSems0 (Ix := Unit) (Name := ℕ) (U := UU) (Lvl := ℕ) (Val := Elt F) (τ := τ) osem c) : sProp 𝕄) := by
  rw [own_sems, barrier_sem]; unfold zeros rings; rw [recv_list]
  iintro ⟨HB, ⟨S0, S1, S2⟩, ⟨R0, R1, R2, R3⟩, HV⟩
  isplitl [HB]; · iexact HB
  isplitl [S0]; · iexact S0
  isplitl [S1]; · iexact S1
  isplitl [S2]; · iexact S2
  isplitl [R0]; · iexact R0
  isplitl [R1]; · iexact R1
  isplitl [R2]; · iexact R2
  isplitl [R3]; · iexact R3
  iexact HV

/-! ## The cells and tokens minted -/

theorem csem_inj : ∀ k k' : Fin 8, csem k = csem k' → k = k' := by decide
theorem kcell_inj : Function.Injective (kcell : Dev nD × Fin 8 → GSem nD τ sig) := by
  rintro ⟨c, k⟩ ⟨c', k'⟩ h
  obtain rfl : c = c' := congrArg (fun g : GSem nD τ sig => g.1.1) h
  exact congrArg (Prod.mk c) (csem_inj k k' (congrArg Prod.snd h))
def allCells : Finset (GSem nD τ sig) := Finset.univ.map ⟨kcell, kcell_inj⟩

/-- The duties of device `c`'s own cells, nine of them. -/
def duty (c : Dev nD) : Fin 9 → SemLoc sig × Fin 4 :=
  ![(.reg barS, 1), (.reg barS, 2), (.reg barS, 3), (.dma (sendS 0), 0), (.dma (sendS 1), 0), (.dma (sendS 2), 0),
    (.dma (recvS (rot 1 c)), 0), (.dma (recvS (rot 2 c)), 0), (.dma (recvS (rot 3 c)), 0)]
def dutyOf (cj : Dev nD × Fin 9) : GSem nD τ sig × ℕ × Fin 4 := (((cj.1 : Thread nD τ), (duty cj.1 cj.2).1), 0, (duty cj.1 cj.2).2)
theorem duty_inj : ∀ (c : Dev nD) (j j' : Fin 9), duty c j = duty c j' → j = j' := by decide
theorem dutyOf_inj : Function.Injective dutyOf := by
  rintro ⟨c, j⟩ ⟨c', j'⟩ h
  obtain rfl : c = c' := congrArg (fun x : GSem nD τ sig × ℕ × Fin 4 => x.1.1.1) h
  exact congrArg (Prod.mk c) (duty_inj c j j' (Prod.ext (congrArg (fun x : GSem nD τ sig × ℕ × Fin 4 => x.1.2) h) (congrArg (fun x : GSem nD τ sig × ℕ × Fin 4 => x.2.2) h)))
def allDuties : Finset (GSem nD τ sig × ℕ × Fin 4) := Finset.univ.map ⟨dutyOf, dutyOf_inj⟩

def u₀ : UU := (initOf (Pipeline.cells cfgs cellOf_inj) (Pipeline.launchToks cfgs cellOf_inj), (initOf allCells allDuties, 1))

/-- The tokens of device `c`'s own cells. -/
def toks (c : Dev nD) : sProp 𝕄 :=
  iprop(dutyTok ER (barCell c) 0 1 ∗ dutyTok ER (barCell c) 0 2 ∗ dutyTok ER (barCell c) 0 3
    ∗ dutyTok ER (sendCell c 0) 0 0 ∗ dutyTok ER (sendCell c 1) 0 0 ∗ dutyTok ER (sendCell c 2) 0 0
    ∗ dutyTok ER (recvCell c (rot 1 c)) 0 0 ∗ dutyTok ER (recvCell c (rot 2 c)) 0 0 ∗ dutyTok ER (recvCell c (rot 3 c)) 0 0)

def G (c : Dev nD) : sProp 𝕄 :=
  iprop((bigSep Finset.univ fun k : Fin 8 => roundState ER (rd m ρ) (kcell (c, k)) 0)
    ∗ (bigSep Finset.univ fun k : Fin 8 => iprop(atPos ER (kcell (c, k)) 0 ∅ 0 ∗ reached ER (kcell (c, k)) 0)) ∗ toks c)
def G' (c : Dev nD) : sProp 𝕄 := iprop(∃ K, ghost m ρ K c)

theorem cells_by_device (Φ : GSem nD τ sig → sProp 𝕄) :
    bigSep allCells Φ = bigSep Finset.univ fun c : Dev nD => bigSep Finset.univ fun k : Fin 8 => Φ (kcell (c, k)) := by
  unfold allCells; rw [bigSep_map, bigSep_univ_prod]; rfl
theorem duties_by_device : bigSep allDuties (fun x => (dutyTok ER x.1 x.2.1 x.2.2 : sProp 𝕄)) = bigSep Finset.univ fun c : Dev nD => toks c := by
  unfold allDuties; rw [bigSep_map, bigSep_univ_prod]
  refine bigSep_congr fun c _ => ?_
  rw [bigSep_univ_eq_bigSepL [0, 1, 2, 3, 4, 5, 6, 7, 8] (by decide) (by decide)]; rfl

theorem mint : BI.own (ER (initOf allCells allDuties)) ⊢ (|==> bigSep Finset.univ (G m ρ) : sProp 𝕄) := by
  iintro HX
  imod (Rounds.fund ER (rd m ρ) allCells allDuties) $$ HX with ⟨HS, HR, HA, HT⟩
  imodintro
  ihave HS := (Entails.of_eq (cells_by_device fun g => roundState ER (rd m ρ) g 0)) $$ HS
  ihave HA := (Entails.of_eq (cells_by_device fun g => atPos ER g 0 ∅ 0)) $$ HA
  ihave HR := (Entails.of_eq (cells_by_device fun g => reached ER g 0)) $$ HR
  ihave HT := (Entails.of_eq duties_by_device) $$ HT
  unfold G; simp only [bigSep_sep']
  isplitl [HS]; · iexact HS
  isplitl [HA HR]
  · isplitl [HA] <;> iassumption
  iexact HT

/-! ## The deal -/

/-- One device's cells put under their invariants. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ rings c) := by
  unfold G
  iintro ⟨HO, HU, HS, HA, HT⟩
  ihave HV := (sems_split (F := F) c) $$ [HO HU]
  · isplitl [HO] <;> iassumption
  icases HV with ⟨HV, HW⟩
  imod (show iprop((bigSep Finset.univ fun k : Fin 8 => semVal (kcell (c, k)) 0) ∗ bigSep Finset.univ fun k : Fin 8 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [HV HS] with HI
  · isplitl [HV] <;> iassumption
  imodintro
  isplitl [HI]; · iexact HI
  isplitl [HA]; · iexact HA
  isplitl [HT]; · iexact HT
  iexact HW

/-- The tokens carried around: duty `k` of a barrier to the peer `k` places on, a receive cell's to the device that fills it. -/
theorem carry : (bigSep Finset.univ fun c : Dev nD => (toks c : sProp 𝕄)) ⊢ bigSep Finset.univ fun c : Dev nD => payToks c := by
  have hr (k : Fin 4) (i : ℕ) (hi : i = 4 - k.val) : (bigSep Finset.univ fun c : Dev nD => (dutyTok ER (recvCell c (rot i c)) 0 0 : sProp 𝕄))
      = bigSep Finset.univ fun c : Dev nD => dutyTok ER (recvCell (rot k.val c) c) 0 0 := by
    rw [bigSep_univ_equiv (rotE k)]
    refine bigSep_congr fun c _ => ?_
    show dutyTok ER (recvCell (rot k.val c) (rot i (rot k.val c))) 0 0 = _
    rw [hi, rot_rot]
  have hb (k d : Fin 4) : (bigSep Finset.univ fun c : Dev nD => (dutyTok ER (barCell c) 0 d : sProp 𝕄))
      = bigSep Finset.univ fun c : Dev nD => dutyTok ER (barCell (rot k.val c)) 0 d := bigSep_univ_equiv (rotE k) _
  unfold toks payToks
  simp only [bigSep_sep']
  iintro ⟨B1, B2, B3, S0, S1, S2, R1, R2, R3⟩
  isplitl [B1 B2 B3]
  · isplitl [B3]; · iapply (Entails.of_eq (hb 1 3)); iexact B3
    isplitl [B2]; · iapply (Entails.of_eq (hb 2 2)); iexact B2
    iapply (Entails.of_eq (hb 3 1)); iexact B1
  isplitl [S0 S1 S2]
  · isplitl [S0]; · iexact S0
    isplitl [S1]; · iexact S1
    iexact S2
  isplitl [R3]; · iapply (Entails.of_eq (hr 1 3 rfl)); iexact R3
  isplitl [R2]; · iapply (Entails.of_eq (hr 2 2 rfl)); iexact R2
  iapply (Entails.of_eq (hr 3 1 rfl)); iexact R1

/-- What everyone knows, given to everyone. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) : iprop((bigSep Finset.univ fun k : Fin 8 => atPos ER (kcell (c, k)) 0 ∅ 0) ∗ payToks c ∗ rings c) ⊢ (linear c : sProp 𝕄) := by
  rw [cells_split c (fun g => atPos ER g 0 ∅ 0)]; exact BI.Entails.refl _

theorem deal :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ rings c) : sProp 𝕄)
      ⊢ bigSep Finset.univ (G' m ρ) := by
  rw [bigSep_sep', bigSep_sep', bigSep_sep', ← bigSep_univ_prod (fun ck : Dev nD × Fin 8 => iprop(∃ κ : ℕ, cellInv ER (rd m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨HA, #HR⟩, HT, HW⟩
  ihave HK := (BI.bigSep_exists_pi Finset.univ (fun (ck : Dev nD × Fin 8) (κ : ℕ) => (cellInv ER (rd m ρ) κ (kcell ck) : sProp 𝕄))) $$ HI
  icases HK with ⟨%K, #HI⟩
  ihave HT := (carry (F := F)) $$ HT
  iapply (share_out (R := records m ρ K) (Φ := fun c => linear c) (Ψ := G' m ρ) fun c _ => by
    unfold G' ghost; iintro H; iexists K; iexact H)
  isplitr
  · unfold records; isplitl; · iexact HI
    iexact HR
  · iapply (show (bigSep Finset.univ fun c : Dev nD => iprop((bigSep Finset.univ fun k : Fin 8 => atPos ER (kcell (c, k)) 0 ∅ 0) ∗ payToks c ∗ rings c) : sProp 𝕄)
        ⊢ bigSep Finset.univ fun c : Dev nD => linear c from bigSep_mono fun c _ => linear_intro (F := F) c)
    simp only [bigSep_sep']
    isplitl [HA]; · iexact HA
    isplitl [HT]; · iexact HT
    iexact HW

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (deal m ρ))

/-! ## The credit at launch -/

theorem bar_eq {a b : Dev nD} : Iff (barCell a = barCell b) (a = b) :=
  ⟨fun h => congrArg (fun g : GSem nD τ sig => g.1.1) h, fun h => h ▸ rfl⟩
theorem recvS_inj : ∀ a b : Dev nD, (SemLoc.dma (recvS a) : SemLoc sig) = .dma (recvS b) → a = b := by decide
theorem recv_eq {a b s t : Dev nD} : Iff (recvCell a s = recvCell b t) (a = b ∧ s = t) :=
  ⟨fun h => ⟨congrArg (fun g : GSem nD τ sig => g.1.1) h, recvS_inj s t (congrArg Prod.snd h)⟩, fun h => by rw [h.1, h.2]⟩
theorem bar_ne_recv {a b s : Dev nD} : barCell a ≠ recvCell b s := fun h => by cases congrArg Prod.snd h

theorem tally_at (g g' : GSem nD τ sig) (n : ℕ) [Decidable (g' = g)] : (tallyAt g () n : CellTallies nD τ sig Unit) g' () = if g' = g then n else 0 := by
  rw [tallyAt_apply]
  by_cases h : g' = g
  · rw [if_pos ⟨h, rfl⟩, if_pos h]
  · rw [if_neg fun h' => h h'.1, if_neg h]

theorem owed_bar (d c : Dev nD) : O₀ d (barCell c) () = if d = c then 0 else 1 := by
  unfold O₀ OR
  simp only [Pi.add_apply, Finsupp.add_apply, tally_at, if_neg bar_ne_recv, bar_eq]
  revert d c; decide
theorem owed_recv (k : Fin 3) (d c : Dev nD) : O₀ d (recvCell c (rot (k.val + 1) c)) () = if d = rot (k.val + 1) c then N else 0 := by
  unfold O₀ OR
  simp only [Pi.add_apply, Finsupp.add_apply, tally_at, if_neg bar_ne_recv.symm, recv_eq]
  generalize N = n
  revert k d c
  intro k d c
  fin_cases k <;> fin_cases d <;> fin_cases c <;> simp [rot]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (k : Fin 3) (c : Dev nD) :
    tallyOn (recvCell c (rot (k.val + 1) c)) (launchCredit (Pipeline.owing O₀) 0 (recvCell c (rot (k.val + 1) c)))
      = (tallyAt (recvCell c (rot (k.val + 1) c)) () N : CellTallies nD τ sig Unit) := by
  unfold tallyAt; refine congrArg _ (Finsupp.ext fun u => ?_); cases u
  rw [Pipeline.launchCredit_owing, Finsupp.single_eq_same, Finset.sum_congr rfl fun d _ => owed_recv k d c,
    Finset.sum_ite_eq' Finset.univ (rot (k.val + 1) c) fun _ => N, if_pos (Finset.mem_univ _)]

theorem creds (c : Dev nD) :
    (Pipeline.launchCred O₀ c : sProp 𝕄) ⊢ iprop(cred (tallyAt (barCell c) () 3)
      ∗ cred (tallyAt (recvCell c (rot 1 c)) () N) ∗ cred (tallyAt (recvCell c (rot 2 c)) () N) ∗ cred (tallyAt (recvCell c (rot 3 c)) () N)) := by
  unfold Pipeline.launchCred
  rw [bigSep_univ_at _ (SemLoc.reg barS), launch_bar]
  refine sep_mono_right ?_
  have h (k : Fin 3) (s : Dev nD) (e : s = rot (k.val + 1) c) : (tallyAt (recvCell c s) () N : CellTallies nD τ sig Unit)
      = tallyOn (recvCell c s) (launchCredit (Pipeline.owing O₀) 0 (recvCell c s)) := by subst e; exact (launch_recv k c).symm
  rw [h 0 (rot 1 c) rfl, h 1 (rot 2 c) rfl, h 2 (rot 3 c) rfl]
  have hs : ({SemLoc.dma (recvS (rot 1 c)), SemLoc.dma (recvS (rot 2 c)), SemLoc.dma (recvS (rot 3 c))} : Finset (SemLoc sig)) ⊆ Finset.univ.erase (SemLoc.reg barS) := by
    intro x hx
    refine Finset.mem_erase.mpr ⟨?_, Finset.mem_univ _⟩
    rintro rfl
    simp at hx
  have hb := bigSep_subset (Φ := fun sm : SemLoc sig => (cred (tallyOn ((c : Thread nD τ), sm) (launchCredit (Pipeline.owing O₀) 0 ((c : Thread nD τ), sm))) : sProp 𝕄)) hs
  rw [bigSep_eq_bigSepL_of_eq (S := {SemLoc.dma (recvS (rot 1 c)), SemLoc.dma (recvS (rot 2 c)), SemLoc.dma (recvS (rot 3 c))})
    [SemLoc.dma (recvS (rot 1 c)), SemLoc.dma (recvS (rot 2 c)), SemLoc.dma (recvS (rot 3 c))] (by simp) (by clear hb hs h; revert c; decide)] at hb
  exact hb

/-! ## The sides of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨HW, HL, HC, -, HG⟩
  ihave HC := (creds (F := F) c) $$ HC
  imodintro
  unfold start G'
  isplitl
  · isplitl [HG]; · iexact HG
    isplitl [HC]; · iexact HC
    isplitl [HL]; · iexact HL
    iexact HW
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨HS, -, HR⟩
  isplitl [HS]; · iexact HS
  iexact HR

def kept (c : Dev nD) : sProp 𝕄 := iprop(unscopedSems0 c ∗ (wM.view.loc (c : Thread nD τ) ↦{fullShare} wArr m c))

theorem exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq]
  unfold Φ₁ scratch kept
  iintro ⟨HR, HZ, HW⟩
  ihave HZ := (sems_join (F := F) c) $$ HZ
  icases HZ with ⟨HU, HO⟩
  isplitl [HU HW]
  · isplitl [HU] <;> iassumption
  isplitl [HO]; · iexact HO
  iexact HR

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_full (c : Dev nD) (w : Fin cfg0.W) : (dats m ρ 0 c).share w = fullShare := by unfold Dat.share; split <;> rfl

/-! ## The run -/

/-- At the end: every window's array at what the pipeline made of it, the weights as they were, every counter at zero. -/
def Done (s : MemSt nD τ sig (Elt F)) : Prop :=
  (∀ c : Dev nD, (∀ w : Fin cfg0.W, s.mem ((cfg0.win w).arr.view.loc (c : Thread nD τ)) = (dats m ρ 0 c).arrAt w cfg0.N)
    ∧ s.mem ((c : Thread nD τ).loc main_arg1) = m ((c : Thread nD τ).loc main_arg1))
  ∧ s.sem = fun _ => 0

theorem kept_read (c : Dev nD) (s' : Phys nD τ sig (Elt F)) :
    iprop(kept m c ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  unfold kept
  iintro ⟨⟨HU, HW⟩, -, HS⟩
  icombine HS HW gives %hw
  imod (Pipeline.unscopedSems0_read (X := unscopedSems0 c) (c := c) fupd_intro s') $$ [HU HS] with ⟨%hu, HS⟩
  · isplitl [HU] <;> iassumption
  imodintro
  isplitr
  · ipureintro; exact ⟨hu, Buf.eq_of_forall_mem_univ hw⟩
  iexact HS

set_option maxRecDepth 32000 in
theorem run_main [∀ e, Nonempty (Elt F e)] : θ_run defs (onTc (τ := τ) (main (F := F))) (s₀ m ρ) (fun r => Done m ρ r.2) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ Variants.none m ρ main
    (hmain := fun _ => rfl)
    (hbody := fun c => body_obligation m ρ c) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (show (BI.own (embR (initOf allCells allDuties, (1 : Counters))) : sProp 𝕄) ⊢ BI.own (ER (initOf allCells allDuties)) from BI.Entails.refl _) $$ HX
      imod (mint m ρ) $$ HX with HG
      imodintro
      isplitl [HP] <;> iassumption)
    (hglob := glob m ρ)
    (hA := fun _ _ => rfl) (hpf := fun _ k => k.elim0)
    (X := start m ρ) (Y := fun c => kept m c) (Z := fun _ => iprop(emp))
    (hX := start_intro m ρ) (hin := enter m ρ) (hout := exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => kept_read m c s')
    (hQ := fun _ h hs => ⟨fun c => ⟨fun w => (h c).1 w, (h c).2.2.2⟩, sem_eq_zero hs fun c => (h c).2.2.1⟩)

end Cert.KernelIdeal.Run

end
-- ==== Proof.KernelIdeal.Args.lean ====
/-
# `KernelIdeal`: the arguments after the run

Three of the arguments are staged by the pipeline and never written back; the fourth, the weight, stays in device memory and
only its tiles are read. So a run that ends as `run_main` says leaves every argument as it found it, and every counter at zero.
-/
module

public import proofs.«01_k».proof.Proof.KernelIdeal.Run

@[expose] public section

noncomputable section

namespace Cert.KernelIdeal.Run

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- What the run leaves of the arguments of device `c`. -/
theorem args_kept (s : MemSt nD τ sig (Elt F)) (h : Done m ρ s) (c : Dev nD) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3) :=
  ⟨((h.1 c).1 0).trans ((dats m ρ 0 c).arrAt_in 0 rfl _), (h.1 c).2,
    ((h.1 c).1 1).trans ((dats m ρ 0 c).arrAt_in 1 rfl _), ((h.1 c).1 2).trans ((dats m ρ 0 c).arrAt_in 2 rfl _)⟩

/-- The frame: the run ends with the arguments as launched and every semaphore counter at zero. -/
theorem frame_run [∀ e, Nonempty (Elt F e)] : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun r h => ⟨args_kept m ρ r.2 h, h.2⟩) (run_main m ρ)

end Cert.KernelIdeal.Run

end
-- ==== Proof.KernelIdeal.Result.lean ====
/-
# `KernelIdeal`: the result after the run

The one point of the grid writes the whole result back, so the array of results of device `c` ends as `outAt m ρ c`.
-/
module

public import proofs.«01_k».proof.Proof.KernelIdeal.Args
public import proofs.«01_k».proof.Proof.Gen.KernelIdeal.Points

@[expose] public section

noncomputable section

namespace Cert.KernelIdeal.Run

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The blocks of the four windows are their whole arrays: an index of a block is that index of the array. -/
theorem emb_x (i : S4096x1024.Idx) : (win0_0.blk (0 : Fin 1)).view.emb i = i := by
  funext a; fin_cases a
  · exact Fin.ext (show 0 * 4096 + 1 * (i (0 : Fin 2)).val = _ by simp)
  · exact Fin.ext (show 0 * 1024 + 1 * (i (1 : Fin 2)).val = _ by simp)
theorem emb_a (i : S1.Idx) : (win0_1.blk (0 : Fin 1)).view.emb i = i := by
  funext a; fin_cases a
  exact Fin.ext (show 0 * 1 + 1 * (i (0 : Fin 1)).val = _ by simp)
theorem emb_b (i : S1.Idx) : (win0_2.blk (0 : Fin 1)).view.emb i = i := by
  funext a; fin_cases a
  exact Fin.ext (show 0 * 1 + 1 * (i (0 : Fin 1)).val = _ by simp)
theorem emb_o (i : S1024x8192.Idx) : (win0_3.blk (0 : Fin 1)).view.emb i = i := by
  funext a; fin_cases a
  · exact Fin.ext (show 0 * 1024 + 1 * (i (0 : Fin 2)).val = _ by simp)
  · exact Fin.ext (show 0 * 8192 + 1 * (i (1 : Fin 2)).val = _ by simp)

theorem xstg_eq (c : Dev nD) : xstg m ρ c = m ((c : Thread nD τ).loc main_arg0) :=
  funext fun i => congrArg (m ((c : Thread nD τ).loc main_arg0)) (emb_x i)
theorem astg_eq (c : Dev nD) : astg m ρ c = m ((c : Thread nD τ).loc main_arg2) :=
  funext fun i => congrArg (m ((c : Thread nD τ).loc main_arg2)) (emb_a i)
theorem bstg_eq (c : Dev nD) : bstg m ρ c = m ((c : Thread nD τ).loc main_arg3) :=
  funext fun i => congrArg (m ((c : Thread nD τ).loc main_arg3)) (emb_b i)

/-- What the point writes back is its block of `outAt`. -/
theorem flushed_out (c : Dev nD) (t : Fin cfg0.N) :
    (dats m ρ 0 c).flushed 3 t = ((cfg0.win 3).blk t).view.read (Elt F) (outAt m ρ c) := by
  obtain rfl : t = (0 : Fin 1) := Subsingleton.elim (α := Fin 1) t 0
  show (cfg0.win 3).cut (grid0.coords (0 : Fin 1)) (outAt m ρ c) = _
  funext i
  exact (congrArg (outAt m ρ c) (emb_o i)).symm

theorem covered_out (i : S1024x8192.Idx) : ∃ t : Fin cfg0.N, (cfg0.win 3).flush t = true ∧ i ∈ ((cfg0.win 3).blk t).view.set :=
  ⟨(0 : Fin 1), flush0_3 _, by have h := (win0_3.blk (0 : Fin 1)).view.emb_mem_set i; rwa [emb_o] at h⟩

theorem result_eq (c : Dev nD) : (dats m ρ 0 c).arrAt 3 cfg0.N = outAt m ρ c :=
  (dats m ρ 0 c).arrAt_eq_of_cover 3 (outAt m ρ c) (fun t _ => flushed_out m ρ c t) covered_out

/-- The run, with the result named and the arguments as launched. -/
theorem value_run [∀ e, Nonempty (Elt F e)] : θ_run defs (onTc (τ := τ) (main (F := F))) ⟨m, fun _ => 0, ρ⟩ fun r =>
    ∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 3).trans (result_eq m ρ c), args_kept m ρ r.2 h c⟩) (run_main m ρ)

end Cert.KernelIdeal.Run

end
-- ==== Proof.Math.Around.lean ====
/-
# A sum over 4096 terms, in four blocks of 1024 taken around a circle

Device `c` adds up the four blocks starting at its own: block `c`, then `c + 1`, `c + 2`, `c + 3`, counted modulo four. Their
total is the whole sum whichever device starts, and the kernel's bracketing does not matter.
-/
module

public import Mathlib.Algebra.BigOperators.Fin
public import Mathlib.Data.Fintype.BigOperators
public import Mathlib.Algebra.Group.Units.Equiv
public import Mathlib.Algebra.Group.Fin.Basic

@[expose] public section

namespace Cert.Math

open scoped BigOperators

/-- Term `k` of the block `j` places after block `c`. -/
def place (c j : Fin 4) (k : Fin 1024) : Fin 4096 :=
  ⟨1024 * ((c.val + j.val) % 4) + k.val, by have := Nat.mod_lt (c.val + j.val) (by decide : 0 < 4); omega⟩

/-- A sum over all the terms is the sum over the blocks of the sums over a block. -/
theorem sum_blocks {M : Type*} [AddCommMonoid M] (f : Fin 4096 → M) :
    ∑ i, f i = ∑ b : Fin 4, ∑ k : Fin 1024, f ⟨1024 * b.val + k.val, by omega⟩ := by
  rw [← Fintype.sum_prod_type' (f := fun (b : Fin 4) (k : Fin 1024) => f ⟨1024 * b.val + k.val, by omega⟩)]
  refine (Fintype.sum_equiv (finProdFinEquiv (m := 4) (n := 1024)) _ f fun p => congrArg f (Fin.ext ?_)).symm
  show 1024 * p.1.val + p.2.val = p.2.val + 1024 * p.1.val
  omega

/-- The four blocks from block `c` on, bracketed as the kernel adds them, are the whole sum. -/
theorem sum_around {M : Type*} [AddCommMonoid M] (f : Fin 4096 → M) (c : Fin 4) :
    (∑ k, f (place c 0 k)) + ((∑ k, f (place c 1 k)) + (∑ k, f (place c 2 k)) + ∑ k, f (place c 3 k)) = ∑ i, f i := by
  rw [sum_blocks, ← Equiv.sum_comp (Equiv.addLeft c), Fin.sum_univ_four, add_assoc, add_assoc, add_assoc]
  rfl

end Cert.Math
-- ==== Proof.KernelIdeal.Element.lean ====
/-
# `KernelIdeal`: an element of the result, at the exact values

At the exact values a conversion between float formats changes nothing and a product of matrices is a sum of products. So the
element in row `r` and column `l` of device `c`'s result is the scale times four sums of 1024 products. The `j`-th of them takes
rows `c` of the `x` of device `c + j` and the rows of the weight that belong to that device's columns of `x`.
-/
module

public import proofs.«01_k».proof.Proof.KernelIdeal.Result
public import proofs.«01_k».proof.Proof.Math.Around
public import Idealize.ShloMosaic.Lib.MatmulPlain

@[expose] public section

noncomputable section

namespace Cert.KernelIdeal.Run

open Cert.KernelIdeal Cert.KernelIdeal.Gen

open Idealize.ShloMosaic Idealize.ShloMosaic.ValueIdx
open Idealize.ShloMosaic.TcCoe
open Cert.Math (place)
open scoped BigOperators

variable (m : (ℓ : Loc nD τ sig) → Buf (Elt Ideal) ℓ) (ρ : Dev nD → PrngReg)

/-- A product of two tiles from a zero accumulator, at an index. -/
theorem mm_apply (a b : FVec Ideal S1024x1024 .fp8e4m3) (r l : Fin 1024) :
    mm a b (ix2 r l) = ∑ k : Fin 1024, a (ix2 r k) * b (ix2 k l) := by
  have h := Ideal.matmul_plain_apply (M := 1024) (K := 1024) (N := 1024) none a b (constant S1024x1024 .f32 0x00000000#32) r l
  refine h.trans ?_
  show Ideal.ofBits .f32 0x00000000#32 + _ = _
  rw [Ideal.ofBits_zero_f32, zero_add]

theorem rot_zero (c : Dev nD) : rot 0 c = c := by revert c; decide

/-- The rows of `x` of device `d` that go to device `c`. -/
theorem rows_apply (c d : Dev nD) (r k : Fin 1024) (row : Fin 4096) (hr : row.val = 1024 * c.val + r.val) :
    (rowM c).view.read (Elt Ideal) (xstg m ρ d) (ix2 r k) = m ((d : Thread nD τ).loc main_arg0) (ix2 row k) := by
  rw [xstg_eq]
  refine congrArg (m ((d : Thread nD τ).loc main_arg0)) (funext fun a => ?_)
  have e := k0_off9_eq c
  fin_cases a
  · refine Fin.ext (show k0_off9 c (0 : Fin 2) + 1 * r.val = row.val from ?_)
    rw [e, hr]; show 1024 * c.val + 1 * r.val = _; omega
  · refine Fin.ext (show k0_off9 c (1 : Fin 2) + 1 * k.val = k.val from ?_)
    rw [e]; show 0 + 1 * k.val = _; omega

/-- The device's own rows. -/
theorem xTile_apply (c : Dev nD) (r k : Fin 1024) (row : Fin 4096) (hr : row.val = 1024 * c.val + r.val) :
    xTile c (xstg m ρ c) (ix2 r k) = m ((c : Thread nD τ).loc main_arg0) (ix2 row k) := by
  exact (congrFun (shapeCast_self (s := S1024x1024) _ _) (ix2 r k)).trans (rows_apply m ρ c c r k row hr)

/-- The rows received from the device `k + 1` places on. -/
theorem gTile_apply (c : Dev nD) (k : Fin 3) (r q : Fin 1024) (row : Fin 4096) (hr : row.val = 1024 * c.val + r.val) :
    gTile m ρ c k (ix2 r q) = m ((rot (k.val + 1) c : Thread nD τ).loc main_arg0) (ix2 row q) := by
  have e : k0_off15 c (BitVec.ofNat 32 (1 + k.val)) = ![(rot (k.val + 1) c).val, 0, 0] := by
    rw [← gslot_off, k0_off2_eq]
  have h := congrFun (read_gath m ρ c (rot (k.val + 1) c) (k0_off15_inb c k) e) (ix2 r q)
  exact h.trans (rows_apply m ρ c (rot (k.val + 1) c) r q row hr)

/-- A weight tile, at an index. -/
theorem wTile_apply (fw : (main_arg1 : Ref sig .tc).ty.Contents (Elt Ideal)) (c : Dev nD) (j : Fin 4) (n : Fin 8) (k l : Fin 1024) (col : Fin 8192)
    (hc : col.val = 1024 * n.val + l.val) : wTile fw c j n (ix2 k l) = fw (ix2 (place c j k) col) := by
  refine congrArg fw (funext fun a => ?_)
  fin_cases a
  · exact Fin.ext (show 1024 * ((c.val + j.val) % 4) + 1 * k.val = 1024 * ((c.val + j.val) % 4) + k.val by omega)
  · exact Fin.ext (show 1024 * n.val + 1 * l.val = col.val by omega)

/-- A tile of the result, at an index. -/
theorem tileV_apply (s : Ideal .f32) (x0 x1 x2 x3 : FVec Ideal S1024x1024 .fp8e4m3) (w0 w1 w2 w3 : FVec Ideal S1024x1024 .f32) (r l : Fin 1024) :
    tileV s x0 x1 x2 x3 w0 w1 w2 w3 (ix2 r l)
      = ((∑ k : Fin 1024, x0 (ix2 r k) * w0 (ix2 k l)) + ((∑ k : Fin 1024, x1 (ix2 r k) * w1 (ix2 k l))
          + (∑ k : Fin 1024, x2 (ix2 r k) * w2 (ix2 k l)) + ∑ k : Fin 1024, x3 (ix2 r k) * w3 (ix2 k l))) * s := by
  have h (a : FVec Ideal S1024x1024 .fp8e4m3) (b : FVec Ideal S1024x1024 .f32) :
      mm a (truncf .fp8e4m3 b bitsLt_fp8e4m3_f32) (ix2 r l) = ∑ k : Fin 1024, a (ix2 r k) * b (ix2 k l) := mm_apply a _ r l
  rw [← h x0 w0, ← h x1 w1, ← h x2 w2, ← h x3 w3]
  rfl

/-- The device that holds column `k` of the whole `x`. -/
def holder (k : Fin 4096) : Dev nD := (⟨k.val / 1024, by omega⟩ : Fin 4)

/-- The whole `x`, put together from the columns the devices hold. -/
def xWhole : Fin 4096 → Fin 4096 → EReal := fun row k =>
  m ((holder k : Thread nD τ).loc main_arg0) (ix2 row (⟨k.val % 1024, by omega⟩ : Fin 1024))

/-- The scales of device `c`. -/
def scaleA (c : Dev nD) : EReal := m ((c : Thread nD τ).loc main_arg2) (ix1 0)
def scaleB (c : Dev nD) : EReal := m ((c : Thread nD τ).loc main_arg3) (ix1 0)
/-- The weight of device `c`, at an index. -/
def wAtIdx (c : Dev nD) (k : Fin 4096) (l : Fin 8192) : EReal := m ((c : Thread nD τ).loc main_arg1) (ix2 k l)

theorem xWhole_place (c : Dev nD) (j : Fin 4) (row : Fin 4096) (k : Fin 1024) :
    m ((rot j.val c : Thread nD τ).loc main_arg0) (ix2 row k) = xWhole m row (place c j k) := by
  have hd : rot j.val c = holder (place c j k) :=
    Fin.ext (show (c.val + j.val) % 4 = (1024 * ((c.val + j.val) % 4) + k.val) / 1024 by omega)
  have hk : k = (⟨(place c j k).val % 1024, by omega⟩ : Fin 1024) :=
    Fin.ext (show k.val = (1024 * ((c.val + j.val) % 4) + k.val) % 1024 by omega)
  exact congrArg₂ (fun (d : Dev nD) (q : Fin 1024) => m ((d : Thread nD τ).loc main_arg0) (ix2 row q)) hd hk

/-- An element of the result of device `c`: one sum over all 4096 terms, times the two scales. -/
theorem outAt_apply (c : Dev nD) (r : Fin 1024) (col : Fin 8192) (row : Fin 4096) (hr : row.val = 1024 * c.val + r.val) :
    outAt m ρ c (ix2 r col) = (∑ k : Fin 4096, xWhole m row k * wAtIdx m c k col) * (scaleA m c * scaleB m c) := by
  have hi : inBlk (ix2 r col) = ix2 r (⟨col.val % 1024, Nat.mod_lt _ (by decide)⟩ : Fin 1024) := by
    funext a; fin_cases a <;> rfl
  have hcol : col.val = 1024 * (blkOf (ix2 r col)).val + col.val % 1024 := (Nat.div_add_mod _ _).symm
  have hx (k : Fin 1024) : xTile c (xstg m ρ c) (ix2 r k) = xWhole m row (place c 0 k) :=
    (xTile_apply m ρ c r k row hr).trans
      ((congrArg (fun d : Dev nD => m ((d : Thread nD τ).loc main_arg0) (ix2 row k)) (rot_zero c).symm).trans
        (xWhole_place m c 0 row k))
  have hg (j : Fin 3) (k : Fin 1024) : gTile m ρ c j (ix2 r k) = xWhole m row (place c j.succ k) :=
    (gTile_apply m ρ c j r k row hr).trans (xWhole_place m c j.succ row k)
  have hw (j : Fin 4) (k : Fin 1024) := wTile_apply (wArr m c) c j (blkOf (ix2 r col)) k (⟨col.val % 1024, Nat.mod_lt _ (by decide)⟩ : Fin 1024) col hcol
  unfold outAt outFrom outOf
  rw [hi, tileV_apply]
  simp only [hx, hg, hw]
  rw [show (Fin.succ (0 : Fin 3) : Fin 4) = 1 from rfl, show (Fin.succ (1 : Fin 3) : Fin 4) = 2 from rfl, show (Fin.succ (2 : Fin 3) : Fin 4) = 3 from rfl,
    Cert.Math.sum_around (fun k => xWhole m row k * wArr m c (ix2 k col)) c, astg_eq, bstg_eq]
  have hs (f : S1.Idx → EReal) : scal (F := Ideal) f = f (ix1 0) := congrArg f (funext fun a => by fin_cases a; rfl)
  rw [hs, hs]
  rfl

end Cert.KernelIdeal.Run

end
-- ==== Proof.Reference.Element.lean ====
/-
# `ReferenceIdeal`: an element of the result, at the exact values

The reference multiplies the whole `x` by the whole weight and scales the product.
-/
module

public import proofs.«01_k».proof.Proof.Gen.ReferenceIdeal.Value
public import Idealize.ShloMosaic.Lib.MatmulPlain

@[expose] public section

noncomputable section

namespace Cert.ReferenceIdeal.Element

open Cert.ReferenceIdeal Cert.ReferenceIdeal.Gen

open Idealize.ShloMosaic Idealize.ShloMosaic.ValueIdx
open scoped BigOperators

/-- The scale, spread over the result: the product of the two one-element arrays. -/
theorem spread_apply (s : FVec Ideal S1 .f32) (i : S4096x8192.Idx) :
    (broadcastTo S4096x8192 (shapeCast S1x1 s shapeCasts_S1_S1x1) broadcasts_S1x1_S4096x8192 : FVec Ideal S4096x8192 .f32) i = s (ix1 0) :=
  congrArg s (funext fun a => by fin_cases a; exact Subsingleton.elim (α := Fin 1) _ _)

/-- An element of the reference's result. -/
theorem G4_apply (x : Vec Ideal S4096x4096 .fp8e4m3) (w : Vec Ideal S4096x8192 .f32) (a b : Vec Ideal S1 .f32) (r : Fin 4096) (l : Fin 8192) :
    Value.G4 (F := Ideal) x w a b (ix2 r l)
      = ((∑ k : Fin 4096, (x (ix2 r k) : EReal) * (w (ix2 k l) : EReal)) * ((a (ix1 0) : EReal) * (b (ix1 0) : EReal)) : EReal) := by
  have h := Ideal.matmul_plain_apply (M := 4096) (K := 4096) (N := 8192) (φ₁ := .f32) (φ₂ := .f32) none (extf .f32 x bitsLt_fp8e4m3_f32 : FVec Ideal S4096x4096 .f32) w
    (constant S4096x8192 .f32 0x00000000#32) r l
  have hz : (constant S4096x8192 .f32 0x00000000#32 : FVec Ideal S4096x8192 .f32) (ix2 r l) = 0 := Ideal.ofBits_zero_f32
  rw [hz, zero_add] at h
  have hs := spread_apply (mulf a b) (ix2 r l)
  exact congrArg₂ (fun p q : EReal => p * q) h hs

end Cert.ReferenceIdeal.Element

end
-- ==== Proof.Math.Agree.lean ====
/-
# The kernel's result is the reference's, at the exact values

Device `c` computes rows `1024 c` to `1024 c + 1023` of the reference's result.
-/
module

public import proofs.«01_k».proof.Defs
public import proofs.«01_k».proof.Proof.KernelIdeal.Element
public import proofs.«01_k».proof.Proof.Reference.Element
public import Idealize.ShloMosaic.Lib.Layout

@[expose] public section

noncomputable section

namespace Cert.Agree

open Idealize.ShloMosaic Idealize.ShloMosaic.ValueIdx Idealize.SL.Sem
open Idealize.ShloMosaic.TcCoe
open Cert.KernelIdeal.Run
open scoped BigOperators

/-- The blocks of the whole `x` the devices hold, put together again. -/
theorem xWhole_of_blocks (m : (ℓ : Loc Cert.KernelIdeal.nD Cert.KernelIdeal.τ Cert.KernelIdeal.sig) → Buf (Elt Ideal) ℓ)
    (X : (⟨2, ![4096, 4096]⟩ : Shape).Idx → EReal)
    (h : ∀ c : Dev Cert.KernelIdeal.nD, m ((c : Thread Cert.KernelIdeal.nD Cert.KernelIdeal.τ).loc Cert.KernelIdeal.main_arg0)
      = Layout.block ⟨2, ![4096, 1024]⟩ ⟨2, ![4096, 4096]⟩ 1 4 c X) (row k : Fin 4096) :
    xWhole m row k = X (ix2 row k) := by
  unfold xWhole
  rw [h]
  refine congrArg X (funext fun a => ?_)
  fin_cases a
  · rfl
  · exact Fin.ext (show k.val / 1024 * 1024 + k.val % 1024 = k.val by omega)

/-- The result of device `c` is its block of rows of the reference's. -/
theorem result (m : (ℓ : Loc Cert.KernelIdeal.nD Cert.KernelIdeal.τ Cert.KernelIdeal.sig) → Buf (Elt Ideal) ℓ) (ρ : Dev Cert.KernelIdeal.nD → PrngReg)
    (X : (⟨2, ![4096, 4096]⟩ : Shape).Idx → EReal) (W : (⟨2, ![4096, 8192]⟩ : Shape).Idx → EReal) (A B : (⟨1, ![1]⟩ : Shape).Idx → EReal)
    (h : ∀ c : Dev Cert.KernelIdeal.nD,
      m ((c : Thread Cert.KernelIdeal.nD Cert.KernelIdeal.τ).loc Cert.KernelIdeal.main_arg0) = Layout.block ⟨2, ![4096, 1024]⟩ ⟨2, ![4096, 4096]⟩ 1 4 c X
      ∧ m ((c : Thread Cert.KernelIdeal.nD Cert.KernelIdeal.τ).loc Cert.KernelIdeal.main_arg1) = W
      ∧ m ((c : Thread Cert.KernelIdeal.nD Cert.KernelIdeal.τ).loc Cert.KernelIdeal.main_arg2) = A
      ∧ m ((c : Thread Cert.KernelIdeal.nD Cert.KernelIdeal.τ).loc Cert.KernelIdeal.main_arg3) = B) (c : Dev Cert.KernelIdeal.nD) :
    outAt m ρ c = Layout.block ⟨2, ![1024, 8192]⟩ ⟨2, ![4096, 8192]⟩ 0 4 c (Cert.ReferenceIdeal.Value.G4 (F := Ideal) X W A B) := by
  funext i
  obtain ⟨r, l, rfl⟩ : ∃ (r : Fin 1024) (l : Fin 8192), i = ix2 r l := ⟨i 0, i 1, eq_ix2 i⟩
  have hc : c.val < 4 := c.isLt
  have hi : (by decide : Layout.Tiles ⟨2, ![1024, 8192]⟩ ⟨2, ![4096, 8192]⟩ 0 4).idx c (ix2 r l)
      = ix2 (⟨1024 * c.val + r.val, by omega⟩ : Fin 4096) l := by
    funext a; fin_cases a
    · exact Fin.ext (show c.val * 1024 + r.val = 1024 * c.val + r.val by omega)
    · rfl
  rw [Layout.block_apply, hi, Cert.ReferenceIdeal.Element.G4_apply,
    outAt_apply m ρ c r l (⟨1024 * c.val + r.val, by omega⟩ : Fin 4096) rfl]
  unfold wAtIdx scaleA scaleB
  rw [(h c).2.1, (h c).2.2.1, (h c).2.2.2]
  simp only [xWhole_of_blocks m X fun c => (h c).1]

end Cert.Agree

end
-- ==== Proof.lean ====
/-
# The proof of `Cert.Claim`

The frames of the kernel, at machine words and at the exact values, come from its run (`Proof/Kernel`, `Proof/KernelIdeal`); the
reference's is its generated run. The two printed kernels are the same program, so nothing has to be preserved. The values agree
by `Proof/Math/Agree.lean`.
-/
module

public import proofs.«01_k».proof.Defs
public import proofs.«01_k».proof.Proof.Kernel.Args
public import proofs.«01_k».proof.Proof.KernelIdeal.Result
public import proofs.«01_k».proof.Proof.Gen.ReferenceIdeal.Frame
public import proofs.«01_k».proof.Proof.Math.Agree
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Run.frame_run m ρ,
    fun m ρ _ => Cert.KernelIdeal.Run.frame_run m ρ,
    fun m ρ _ => Cert.ReferenceIdeal.Gen.frame m ρ,
    trivial,
    fun m ρ m' ρ' _ h => ⟨_, (θ_run Cert.KernelIdeal.defs _ _).mono
        (fun r hr c => ⟨(hr c).1.trans (Cert.Agree.result m ρ _ _ _ _ h c), (hr c).2⟩) (Cert.KernelIdeal.Run.value_run m ρ),
      (θ_run Cert.ReferenceIdeal.defs _ _).mono (fun r hr => hr 0) (Cert.ReferenceIdeal.Value.run m' ρ')⟩⟩

end Cert.Proof

end
